-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdIdeal_finite_steps [hPre_finite_steps : Cert.Pre_finite_steps.Facts] (m : (ℓ : Loc Cert.SsdIdeal.nD Cert.SsdIdeal.τ Cert.SsdIdeal.sig) → Buf (Elt Ideal) ℓ) : Prop :=
  ∀ c : Dev Cert.SsdIdeal.nD,
    (Cert.Pre_finite_steps.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6)) (m ((c.tc : Thread Cert.SsdIdeal.nD Cert.SsdIdeal.τ).loc Cert.SsdIdeal.main_arg7)) (m ((c.tc : Thread Cert.SsdIdeal.nD Cert.SsdIdeal.τ).loc Cert.SsdIdeal.main_arg8))) = (fun _ => 1#1)

def Pre_SsdRefIdeal (m : (ℓ : Loc Cert.SsdRefIdeal.nD Cert.SsdRefIdeal.τ Cert.SsdRefIdeal.sig) → Buf (Elt Ideal) ℓ) : Prop :=
  True

def Pre_SsdRefIdeal_finite_steps [hPre_finite_steps : Cert.Pre_finite_steps.Facts] (m : (ℓ : Loc Cert.SsdRefIdeal.nD Cert.SsdRefIdeal.τ Cert.SsdRefIdeal.sig) → Buf (Elt Ideal) ℓ) : Prop :=
  ∀ c : Dev Cert.SsdRefIdeal.nD,
    (Cert.Pre_finite_steps.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6)) (m ((c.tc : Thread Cert.SsdRefIdeal.nD Cert.SsdRefIdeal.τ).loc Cert.SsdRefIdeal.main_arg7)) (m ((c.tc : Thread Cert.SsdRefIdeal.nD Cert.SsdRefIdeal.τ).loc Cert.SsdRefIdeal.main_arg8))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7)
      ∧ r.2.mem ((c.tc : Thread Cert.Ssd.nD Cert.Ssd.τ).loc Cert.Ssd.main_arg8) = m ((c.tc : Thread Cert.Ssd.nD Cert.Ssd.τ).loc Cert.Ssd.main_arg8))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8))
      ∧ r.2.sem = fun _ => 0)

def quiescent_SsdIdeal_pre_finite_steps [hSsdIdeal : Cert.SsdIdeal.Facts] [hPre_finite_steps : Cert.Pre_finite_steps.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal_finite_steps m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7)
      ∧ r.2.mem ((c.tc : Thread Cert.SsdRefIdeal.nD Cert.SsdRefIdeal.τ).loc Cert.SsdRefIdeal.main_arg8) = m ((c.tc : Thread Cert.SsdRefIdeal.nD Cert.SsdRefIdeal.τ).loc Cert.SsdRefIdeal.main_arg8))
      ∧ r.2.sem = fun _ => 0)

def quiescent_SsdRefIdeal_pre_finite_steps [hSsdRefIdeal : Cert.SsdRefIdeal.Facts] [hPre_finite_steps : Cert.Pre_finite_steps.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal_finite_steps m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7)
      ∧ r.2.mem ((c.tc : Thread Cert.SsdRefIdeal.nD Cert.SsdRefIdeal.τ).loc Cert.SsdRefIdeal.main_arg8) = m ((c.tc : Thread Cert.SsdRefIdeal.nD Cert.SsdRefIdeal.τ).loc Cert.SsdRefIdeal.main_arg8))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v1_0)) (v1 : (c : Dev Cert.InProjIdeal.nD) → Buf (Elt Ideal) ((c.tc : Thread Cert.InProjIdeal.nD Cert.InProjIdeal.τ).loc Cert.InProjIdeal.main_v1_1)) (v2 : (c : Dev Cert.InProjIdeal.nD) → Buf (Elt Ideal) ((c.tc : Thread Cert.InProjIdeal.nD Cert.InProjIdeal.τ).loc Cert.InProjIdeal.main_v1_2)) (v3 : (c : Dev Cert.InProjIdeal.nD) → Buf (Elt Ideal) ((c.tc : Thread Cert.InProjIdeal.nD Cert.InProjIdeal.τ).loc Cert.InProjIdeal.main_v1_3)) (v4 : (c : Dev Cert.InProjIdeal.nD) → Buf (Elt Ideal) ((c.tc : Thread Cert.InProjIdeal.nD Cert.InProjIdeal.τ).loc Cert.InProjIdeal.main_v1_4)) (v5 : (c : Dev Cert.InProjIdeal.nD) → Buf (Elt Ideal) ((c.tc : Thread Cert.InProjIdeal.nD Cert.InProjIdeal.τ).loc Cert.InProjIdeal.main_v1_5)) (v6 : (c : Dev Cert.InProjIdeal.nD) → Buf (Elt Ideal) ((c.tc : Thread Cert.InProjIdeal.nD Cert.InProjIdeal.τ).loc Cert.InProjIdeal.main_v1_6)) (v7 : (c : Dev Cert.InProjIdeal.nD) → Buf (Elt Ideal) ((c.tc : Thread Cert.InProjIdeal.nD Cert.InProjIdeal.τ).loc Cert.InProjIdeal.main_v1_7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_0) = v0 c
          ∧ r.2.mem ((c.tc : Thread Cert.InProjIdeal.nD Cert.InProjIdeal.τ).loc Cert.InProjIdeal.main_v1_1) = v1 c
          ∧ r.2.mem ((c.tc : Thread Cert.InProjIdeal.nD Cert.InProjIdeal.τ).loc Cert.InProjIdeal.main_v1_2) = v2 c
          ∧ r.2.mem ((c.tc : Thread Cert.InProjIdeal.nD Cert.InProjIdeal.τ).loc Cert.InProjIdeal.main_v1_3) = v3 c
          ∧ r.2.mem ((c.tc : Thread Cert.InProjIdeal.nD Cert.InProjIdeal.τ).loc Cert.InProjIdeal.main_v1_4) = v4 c
          ∧ r.2.mem ((c.tc : Thread Cert.InProjIdeal.nD Cert.InProjIdeal.τ).loc Cert.InProjIdeal.main_v1_5) = v5 c
          ∧ r.2.mem ((c.tc : Thread Cert.InProjIdeal.nD Cert.InProjIdeal.τ).loc Cert.InProjIdeal.main_v1_6) = v6 c
          ∧ r.2.mem ((c.tc : Thread Cert.InProjIdeal.nD Cert.InProjIdeal.τ).loc Cert.InProjIdeal.main_v1_7) = v7 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v27) = v0 c
          ∧ r.2.mem ((c.tc : Thread Cert.InProjRefIdeal.nD Cert.InProjRefIdeal.τ).loc Cert.InProjRefIdeal.main_v28) = v1 c
          ∧ r.2.mem ((c.tc : Thread Cert.InProjRefIdeal.nD Cert.InProjRefIdeal.τ).loc Cert.InProjRefIdeal.main_v29) = v2 c
          ∧ r.2.mem ((c.tc : Thread Cert.InProjRefIdeal.nD Cert.InProjRefIdeal.τ).loc Cert.InProjRefIdeal.main_v19) = v3 c
          ∧ r.2.mem ((c.tc : Thread Cert.InProjRefIdeal.nD Cert.InProjRefIdeal.τ).loc Cert.InProjRefIdeal.main_v30) = v4 c
          ∧ r.2.mem ((c.tc : Thread Cert.InProjRefIdeal.nD Cert.InProjRefIdeal.τ).loc Cert.InProjRefIdeal.main_v31) = v5 c
          ∧ r.2.mem ((c.tc : Thread Cert.InProjRefIdeal.nD Cert.InProjRefIdeal.τ).loc Cert.InProjRefIdeal.main_v22) = v6 c
          ∧ r.2.mem ((c.tc : Thread Cert.InProjRefIdeal.nD Cert.InProjRefIdeal.τ).loc Cert.InProjRefIdeal.main_v32) = v7 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Ssd_SsdIdeal : Prop :=
  IdealRules.named_const.Statement Cert.SsdIdeal.κ "neg_log2e" .f32 0xBFB8AA3B#32 ((-((Real.log 2)⁻¹) : ℝ) : EReal)
  ∧ IdealRules.named_const.Statement Cert.SsdIdeal.κ "mask" .f32 0xF149F2CA#32 ⊥

def algebraic_SsdIdeal_SsdRefIdeal_pre_finite_steps [hSsdIdeal : Cert.SsdIdeal.Facts] [hSsdRefIdeal : Cert.SsdRefIdeal.Facts] [hPre_finite_steps : Cert.Pre_finite_steps.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal_finite_steps m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)
      ∧ m' ((c.tc : Thread Cert.SsdRefIdeal.nD Cert.SsdRefIdeal.τ).loc Cert.SsdRefIdeal.main_arg7) = m ((c.tc : Thread Cert.SsdIdeal.nD Cert.SsdIdeal.τ).loc Cert.SsdIdeal.main_arg7)
      ∧ m' ((c.tc : Thread Cert.SsdRefIdeal.nD Cert.SsdRefIdeal.τ).loc Cert.SsdRefIdeal.main_arg8) = m ((c.tc : Thread Cert.SsdIdeal.nD Cert.SsdIdeal.τ).loc Cert.SsdIdeal.main_arg8)) →
    ∃ (v0 : (c : Dev Cert.SsdIdeal.nD) → Buf (Elt Ideal) ((c.tc : Thread Cert.SsdIdeal.nD Cert.SsdIdeal.τ).loc Cert.SsdIdeal.main_v54)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v54) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
          ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
          ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v279) = v0 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6)
          ∧ r.2.mem ((c.tc : Thread Cert.SsdRefIdeal.nD Cert.SsdRefIdeal.τ).loc Cert.SsdRefIdeal.main_arg7) = m' ((c.tc : Thread Cert.SsdRefIdeal.nD Cert.SsdRefIdeal.τ).loc Cert.SsdRefIdeal.main_arg7)
          ∧ r.2.mem ((c.tc : Thread Cert.SsdRefIdeal.nD Cert.SsdRefIdeal.τ).loc Cert.SsdRefIdeal.main_arg8) = m' ((c.tc : Thread Cert.SsdRefIdeal.nD Cert.SsdRefIdeal.τ).loc Cert.SsdRefIdeal.main_arg8))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v21_0)) (v1 : (c : Dev Cert.MergeIdeal.nD) → Buf (Elt Ideal) ((c.tc : Thread Cert.MergeIdeal.nD Cert.MergeIdeal.τ).loc Cert.MergeIdeal.main_v21_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v21_0) = v0 c
          ∧ r.2.mem ((c.tc : Thread Cert.MergeIdeal.nD Cert.MergeIdeal.τ).loc Cert.MergeIdeal.main_v21_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v17) = v0 c
          ∧ r.2.mem ((c.tc : Thread Cert.MergeRefIdeal.nD Cert.MergeRefIdeal.τ).loc Cert.MergeRefIdeal.main_v32) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def Claim : Prop :=
  ∃ (hInProj : Cert.InProj.Facts) (hInProjIdeal : Cert.InProjIdeal.Facts) (hInProjRefIdeal : Cert.InProjRefIdeal.Facts) (hSsd : Cert.Ssd.Facts) (hSsdIdeal : Cert.SsdIdeal.Facts) (hSsdRefIdeal : Cert.SsdRefIdeal.Facts) (hMerge : Cert.Merge.Facts) (hMergeIdeal : Cert.MergeIdeal.Facts) (hMergeRefIdeal : Cert.MergeRefIdeal.Facts) (hPre_finite_steps : Cert.Pre_finite_steps.Facts),
    quiescent_InProj (hInProj := hInProj)
    ∧ quiescent_InProjIdeal (hInProjIdeal := hInProjIdeal)
    ∧ quiescent_InProjRefIdeal (hInProjRefIdeal := hInProjRefIdeal)
    ∧ quiescent_Ssd (hSsd := hSsd)
    ∧ quiescent_SsdIdeal (hSsdIdeal := hSsdIdeal)
    ∧ quiescent_SsdIdeal_pre_finite_steps (hSsdIdeal := hSsdIdeal) (hPre_finite_steps := hPre_finite_steps)
    ∧ quiescent_SsdRefIdeal (hSsdRefIdeal := hSsdRefIdeal)
    ∧ quiescent_SsdRefIdeal_pre_finite_steps (hSsdRefIdeal := hSsdRefIdeal) (hPre_finite_steps := hPre_finite_steps)
    ∧ quiescent_Merge (hMerge := hMerge)
    ∧ quiescent_MergeIdeal (hMergeIdeal := hMergeIdeal)
    ∧ quiescent_MergeRefIdeal (hMergeRefIdeal := hMergeRefIdeal)
    ∧ preserves_InProj_InProjIdeal
    ∧ algebraic_InProjIdeal_InProjRefIdeal (hInProjIdeal := hInProjIdeal) (hInProjRefIdeal := hInProjRefIdeal)
    ∧ preserves_Ssd_SsdIdeal
    ∧ algebraic_SsdIdeal_SsdRefIdeal_pre_finite_steps (hSsdIdeal := hSsdIdeal) (hSsdRefIdeal := hSsdRefIdeal) (hPre_finite_steps := hPre_finite_steps)
    ∧ preserves_Merge_MergeIdeal
    ∧ algebraic_MergeIdeal_MergeRefIdeal (hMergeIdeal := hMergeIdeal) (hMergeRefIdeal := hMergeRefIdeal)
-- ==== Pre_finite_steps.lean ====
abbrev S32768x1024 : Shape := ⟨2, ![32768, 1024]⟩
abbrev S32768x1536 : Shape := ⟨2, ![32768, 1536]⟩
abbrev S32768x128 : Shape := ⟨2, ![32768, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S32768x16 : Shape := ⟨2, ![32768, 16]⟩
abbrev S_ : Shape := ⟨0, ![]⟩

class Facts : Prop where
  slices_S32768x128_S32768x16_0_0 : S32768x128.Slices ![0, 0] S32768x16
  bcast_S_S32768x16 : S_.BroadcastsInDim S32768x16 (![] : Fin 0 → Fin S32768x16.rank)
  reducesTo_S32768x16_S_d0_1 : S32768x16.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S32768x1024 .bf16) (main_arg1 : FVec F S32768x1536 .bf16) (main_arg2 : FVec F S32768x128 .f32) (main_arg3 : FVec F S4x1536 .f32) (main_arg4 : FVec F S1536 .f32) (main_arg5 : FVec F S16 .f32) (main_arg6 : FVec F S16 .f32) (main_arg7 : FVec F S16 .f32) (main_arg8 : FVec F S1024 .f32) : IVec S_ 1 :=
  let main_v0 : FVec F S32768x16 .f32 := (extractStridedSlice S32768x16 ![0, 0] · slices_S32768x128_S32768x16_0_0) main_arg2
  let main_cst : FVec F S_ .f32 := constant S_ .f32 0x7F800000#32
  let main_v1 : FVec F S32768x16 .f32 := broadcastInDim S32768x16 ![] bcast_S_S32768x16 main_cst
  let main_v2 : IVec S32768x16 1 := cmpf .olt main_v0 main_v1
  let main_c : IVec S_ 1 := constantI S_ 1 1#1
  let main_v3 : IVec S_ 1 := (fun x v => Host.reduce IntOp.andi x v reducesTo_S32768x16_S_d0_1 h_S_) main_v2 main_c
  let main_cst_0 : FVec F S_ .f32 := constant S_ .f32 0x7F800000#32
  let main_v4 : FVec F S16 .f32 := broadcastInDim S16 ![] bcast_S_S16 main_cst_0
  let main_v5 : IVec S16 1 := cmpf .olt main_arg5 main_v4
  let main_c_1 : IVec S_ 1 := constantI S_ 1 1#1
  let main_v6 : IVec S_ 1 := (fun x v => Host.reduce IntOp.andi x v reducesTo_S16_S_d0 h_S_) main_v5 main_c_1
  let main_v7 : IVec S_ 1 := andi main_v3 main_v6
  let main_cst_2 : FVec F S_ .f32 := constant S_ .f32 0x7F800000#32
  let main_v8 : FVec F S16 .f32 := broadcastInDim S16 ![] bcast_S_S16 main_cst_2
  let main_v9 : IVec S16 1 := cmpf .olt main_arg6 main_v8
  let main_c_3 : IVec S_ 1 := constantI S_ 1 1#1
  let main_v10 : IVec S_ 1 := (fun x v => Host.reduce IntOp.andi x v reducesTo_S16_S_d0 h_S_) main_v9 main_c_3
  let main_v11 : IVec S_ 1 := andi main_v7 main_v10
  main_v11
-- ==== InProj.lean ====
abbrev S32768x1024 : Shape := ⟨2, ![32768, 1024]⟩
abbrev S1024 : Shape := ⟨1, ![1024]⟩
abbrev S1024x6272 : Shape := ⟨2, ![1024, 6272]⟩
abbrev S1x1024 : Shape := ⟨2, ![1, 1024]⟩
abbrev S32768x512 : Shape := ⟨2, ![32768, 512]⟩
abbrev S2048x4096 : Shape := ⟨2, ![2048, 4096]⟩
abbrev S32768x256 : Shape := ⟨2, ![32768, 256]⟩
abbrev S32768x1536 : Shape := ⟨2, ![32768, 1536]⟩
abbrev S32768x128 : Shape := ⟨2, ![32768, 128]⟩
abbrev S32768x2048 : Shape := ⟨2, ![32768, 2048]⟩
abbrev S512x1024 : Shape := ⟨2, ![512, 1024]⟩
abbrev S512x512 : Shape := ⟨2, ![512, 512]⟩
abbrev S32x4096 : Shape := ⟨2, ![32, 4096]⟩
abbrev S512x256 : Shape := ⟨2, ![512, 256]⟩
abbrev S512x1536 : Shape := ⟨2, ![512, 1536]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩
abbrev S32x16x128 : Shape := ⟨3, ![32, 16, 128]⟩
abbrev S32x2048 : Shape := ⟨2, ![32, 2048]⟩
abbrev S1024x128 : Shape := ⟨2, ![1024, 128]⟩

abbrev nBuf : Space → Nat
  | .hbm => 12
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6272, .bf16⟩
  | .hbm, ⟨3, _⟩ => ⟨S1x1024, .f32⟩
  | .hbm, ⟨4, _⟩ => ⟨S32768x512, .bf16⟩
  | .hbm, ⟨5, _⟩ => ⟨S2048x4096, .bf16⟩
  | .hbm, ⟨6, _⟩ => ⟨S32768x512, .bf16⟩
  | .hbm, ⟨7, _⟩ => ⟨S32768x256, .f32⟩
  | .hbm, ⟨8, _⟩ => ⟨S32768x1024, .bf16⟩
  | .hbm, ⟨9, _⟩ => ⟨S32768x1536, .bf16⟩
  | .hbm, ⟨10, _⟩ => ⟨S32768x128, .f32⟩
  | .hbm, ⟨11, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6272, .bf16⟩
  | .local _ .vmem, ⟨4, _⟩ => ⟨S512x512, .bf16⟩
  | .local _ .vmem, ⟨5, _⟩ => ⟨S512x512, .bf16⟩
  | .local _ .vmem, ⟨6, _⟩ => ⟨S32x4096, .bf16⟩
  | .local _ .vmem, ⟨7, _⟩ => ⟨S32x4096, .bf16⟩
  | .local _ .vmem, ⟨8, _⟩ => ⟨S512x512, .bf16⟩
  | .local _ .vmem, ⟨9, _⟩ => ⟨S512x512, .bf16⟩
  | .local _ .vmem, ⟨10, _⟩ => ⟨S512x256, .f32⟩
  | .local _ .vmem, ⟨11, _⟩ => ⟨S512x256, .f32⟩
  | .local _ .vmem, ⟨12, _⟩ => ⟨S512x1024, .bf16⟩
  | .local _ .vmem, ⟨13, _⟩ => ⟨S512x1024, .bf16⟩
  | .local _ .vmem, ⟨14, _⟩ => ⟨S512x1536, .bf16⟩
  | .local _ .vmem, ⟨15, _⟩ => ⟨S512x1536, .bf16⟩
  | .local _ .vmem, ⟨16, _⟩ => ⟨S512x128, .f32⟩
  | .local _ .vmem, ⟨17, _⟩ => ⟨S512x128, .f32⟩
  | .local _ .vmem, ⟨18, _⟩ => ⟨S512x2048, .bf16⟩
  | .local _ .vmem, ⟨19, _⟩ => ⟨S512x2048, .bf16⟩
  | .local _ .vmem, ⟨20, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev main_v1_6 : Ref sig .tc := ⟨.hbm, 10, rfl⟩
abbrev main_v1_7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6272 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InProjRefIdeal.lean ====
abbrev S32768x1024 : Shape := ⟨2, ![32768, 1024]⟩
abbrev S1024 : Shape := ⟨1, ![1024]⟩
abbrev S1024x6272 : Shape := ⟨2, ![1024, 6272]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x6272 : Shape := ⟨2, ![32768, 6272]⟩
abbrev S32768x512 : Shape := ⟨2, ![32768, 512]⟩
abbrev S32768x128 : Shape := ⟨2, ![32768, 128]⟩
abbrev S32768x256 : Shape := ⟨2, ![32768, 256]⟩
abbrev S32768x1536 : Shape := ⟨2, ![32768, 1536]⟩
abbrev S32768x2048 : Shape := ⟨2, ![32768, 2048]⟩
abbrev S2048x2048 : Shape := ⟨2, ![2048, 2048]⟩
abbrev S2048x4096 : Shape := ⟨2, ![2048, 4096]⟩

abbrev nBuf : Space → Nat
  | .hbm => 39
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6272, .bf16⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S1024x6272, .f32⟩
  | .hbm, ⟨20, _⟩ => ⟨S32768x6272, .f32⟩
  | .hbm, ⟨21, _⟩ => ⟨S32768x512, .f32⟩
  | .hbm, ⟨22, _⟩ => ⟨S32768x128, .f32⟩
  | .hbm, ⟨23, _⟩ => ⟨S32768x128, .f32⟩
  | .hbm, ⟨24, _⟩ => ⟨S32768x512, .f32⟩
  | .hbm, ⟨25, _⟩ => ⟨S32768x256, .f32⟩
  | .hbm, ⟨26, _⟩ => ⟨S32768x1024, .f32⟩
  | .hbm, ⟨27, _⟩ => ⟨S32768x1536, .f32⟩
  | .hbm, ⟨28, _⟩ => ⟨S32768x128, .f32⟩
  | .hbm, ⟨29, _⟩ => ⟨S32768x2048, .f32⟩
  | .hbm, ⟨30, _⟩ => ⟨S2048x2048, .f32⟩
  | .hbm, ⟨31, _⟩ => ⟨S2048x2048, .f32⟩
  | .hbm, ⟨32, _⟩ => ⟨S2048x4096, .f32⟩
  | .hbm, ⟨33, _⟩ => ⟨S32768x512, .bf16⟩
  | .hbm, ⟨34, _⟩ => ⟨S2048x4096, .bf16⟩
  | .hbm, ⟨35, _⟩ => ⟨S32768x512, .bf16⟩
  | .hbm, ⟨36, _⟩ => ⟨S32768x1024, .bf16⟩
  | .hbm, ⟨37, _⟩ => ⟨S32768x1536, .bf16⟩
  | .hbm, ⟨38, _⟩ => ⟨S32768x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== Ssd.lean ====
abbrev S32768x1024 : Shape := ⟨2, ![32768, 1024]⟩
abbrev S32768x1536 : Shape := ⟨2, ![32768, 1536]⟩
abbrev S32768x128 : Shape := ⟨2, ![32768, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S32768x16 : Shape := ⟨2, ![32768, 16]⟩
abbrev S8x4096x16 : Shape := ⟨3, ![8, 4096, 16]⟩
abbrev S8x16x4096 : Shape := ⟨3, ![8, 16, 4096]⟩
abbrev S_ : Shape := ⟨0, ![]⟩
abbrev S128x1024 : Shape := ⟨2, ![128, 1024]⟩
abbrev S16x16 : Shape := ⟨2, ![16, 16]⟩
abbrev S16x16x64 : Shape := ⟨3, ![16, 16, 64]⟩
abbrev S16x1024 : Shape := ⟨2, ![16, 1024]⟩
abbrev S1 : Shape := ⟨1, ![1]⟩
abbrev S256x1024 : Shape := ⟨2, ![256, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S768x256 : Shape := ⟨2, ![768, 256]⟩
abbrev S1x1536 : Shape := ⟨2, ![1, 1536]⟩
abbrev S1x128 : Shape := ⟨2, ![1, 128]⟩
abbrev S2 : Shape := ⟨1, ![2]⟩
abbrev S16x1 : Shape := ⟨2, ![16, 1]⟩
abbrev S16x64 : Shape := ⟨2, ![16, 64]⟩
abbrev S1x1024 : Shape := ⟨2, ![1, 1024]⟩
abbrev S256x1536 : Shape := ⟨2, ![256, 1536]⟩
abbrev S256x128 : Shape := ⟨2, ![256, 128]⟩
abbrev S1x16x256 : Shape := ⟨3, ![1, 16, 256]⟩
abbrev S16x1536 : Shape := ⟨2, ![16, 1536]⟩
abbrev S2x128x512 : Shape := ⟨3, ![2, 128, 512]⟩
abbrev S8x1536 : Shape := ⟨2, ![8, 1536]⟩
abbrev S768x1536 : Shape := ⟨2, ![768, 1536]⟩
abbrev S248x1536 : Shape := ⟨2, ![248, 1536]⟩
abbrev S256x384 : Shape := ⟨2, ![256, 384]⟩
abbrev S16x256 : Shape := ⟨2, ![16, 256]⟩
abbrev S48x256 : Shape := ⟨2, ![48, 256]⟩
abbrev S1x128x512 : Shape := ⟨3, ![1, 128, 512]⟩
abbrev S128x512 : Shape := ⟨2, ![128, 512]⟩
abbrev S256x512 : Shape := ⟨2, ![256, 512]⟩
abbrev S1x512 : Shape := ⟨2, ![1, 512]⟩
abbrev S128x128 : Shape := ⟨2, ![128, 128]⟩
abbrev S128x256 : Shape := ⟨2, ![128, 256]⟩

abbrev nBuf : Space → Nat
  | .hbm => 76
  | .vmem => 23
  | .smem => 0
  | _ => 0

abbrev bufTy : (tb : Table) → Fin (tcTables nBuf tb) → BufTy
  | .hbm, ⟨0, _⟩ => ⟨S32768x1024, .bf16⟩
  | .hbm, ⟨1, _⟩ => ⟨S32768x1536, .bf16⟩
  | .hbm, ⟨2, _⟩ => ⟨S32768x128, .f32⟩
  | .hbm, ⟨3, _⟩ => ⟨S4x1536, .f32⟩
  | .hbm, ⟨4, _⟩ => ⟨S1536, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S1024, .f32⟩
  | .hbm, ⟨9, _⟩ => ⟨S32768x16, .f32⟩
  | .hbm, ⟨10, _⟩ => ⟨S8x4096x16, .f32⟩
  | .hbm, ⟨11, _⟩ => ⟨S8x16x4096, .f32⟩
  | .hbm, ⟨12, _⟩ => ⟨S_, .f32⟩
  | .hbm, ⟨13, _⟩ => ⟨S128x1024, .f32⟩
  | .hbm, ⟨14, _⟩ => ⟨S16x16, .i32⟩
  | .hbm, ⟨15, _⟩ => ⟨S16x16, .i32⟩
  | .hbm, ⟨16, _⟩ => ⟨S_, .i32⟩
  | .hbm, ⟨17, _⟩ => ⟨S16x16, .i32⟩
  | .hbm, ⟨18, _⟩ => ⟨S16x16, .i32⟩
  | .hbm, ⟨19, _⟩ => ⟨S16x16, .i1⟩
  | .hbm, ⟨20, _⟩ => ⟨S16x16, .f32⟩
  | .hbm, ⟨21, _⟩ => ⟨S16x16x64, .f32⟩
  | .hbm, ⟨22, _⟩ => ⟨S16x1024, .f32⟩
  | .hbm, ⟨23, _⟩ => ⟨S_, .i32⟩
  | .hbm, ⟨24, _⟩ => ⟨S1, .i32⟩
  | .hbm, ⟨25, _⟩ => ⟨S128x1024, .f32⟩
  | .hbm, ⟨26, _⟩ => ⟨S256x1024, .f32⟩
  | .hbm, ⟨27, _⟩ => ⟨S256x1024, .bf16⟩
  | .hbm, ⟨28, _⟩ => ⟨S256, .i32⟩
  | .hbm, ⟨29, _⟩ => ⟨S256x1, .i32⟩
  | .hbm, ⟨30, _⟩ => ⟨S256, .i32⟩
  | .hbm, ⟨31, _⟩ => ⟨S1x256, .i32⟩
  | .hbm, ⟨32, _⟩ => ⟨S_, .i32⟩
  | .hbm, ⟨33, _⟩ => ⟨S256x1, .i32⟩
  | .hbm, ⟨34, _⟩ => ⟨S256x1, .i32⟩
  | .hbm, ⟨35, _⟩ => ⟨S256x256, .i32⟩
  | .hbm, ⟨36, _⟩ => ⟨S256x256, .i32⟩
  | .hbm, ⟨37, _⟩ => ⟨S256x256, .i1⟩
  | .hbm, ⟨38, _⟩ => ⟨S_, .i32⟩
  | .hbm, ⟨39, _⟩ => ⟨S256x1, .i32⟩
  | .hbm, ⟨40, _⟩ => ⟨S256x1, .i32⟩
  | .hbm, ⟨41, _⟩ => ⟨S256x256, .i32⟩
  | .hbm, ⟨42, _⟩ => ⟨S256x256, .i32⟩
  | .hbm, ⟨43, _⟩ => ⟨S256x256, .i1⟩
  | .hbm, ⟨44, _⟩ => ⟨S_, .i32⟩
  | .hbm, ⟨45, _⟩ => ⟨S256x1, .i32⟩
  | .hbm, ⟨46, _⟩ => ⟨S256x1, .i32⟩
  | .hbm, ⟨47, _⟩ => ⟨S256x256, .i32⟩
  | .hbm, ⟨48, _⟩ => ⟨S256x256, .i32⟩
  | .hbm, ⟨49, _⟩ => ⟨S256x256, .i1⟩
  | .hbm, ⟨50, _⟩ => ⟨S768x256, .i1⟩
  | .hbm, ⟨51, _⟩ => ⟨S768x256, .bf16⟩
  | .hbm, ⟨52, _⟩ => ⟨S1x1536, .f32⟩
  | .hbm, ⟨53, _⟩ => ⟨S_, .f32⟩
  | .hbm, ⟨54, _⟩ => ⟨S1x128, .f32⟩
  | .hbm, ⟨55, _⟩ => ⟨S_, .i32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S2, .i32⟩
  | .hbm, ⟨60, _⟩ => ⟨S1x128, .f32⟩
  | .hbm, ⟨61, _⟩ => ⟨S16x1, .f32⟩
  | .hbm, ⟨62, _⟩ => ⟨S_, .f32⟩
  | .hbm, ⟨63, _⟩ => ⟨S1x128, .f32⟩
  | .hbm, ⟨64, _⟩ => ⟨S_, .i32⟩
  | .hbm, ⟨65, _⟩ => ⟨S1, .i32⟩
  | .hbm, ⟨66, _⟩ => ⟨S_, .i32⟩
  | .hbm, ⟨67, _⟩ => ⟨S1, .i32⟩
  | .hbm, ⟨68, _⟩ => ⟨S2, .i32⟩
  | .hbm, ⟨69, _⟩ => ⟨S1x128, .f32⟩
  | .hbm, ⟨70, _⟩ => ⟨S16x1, .f32⟩
  | .hbm, ⟨71, _⟩ => ⟨S16x64, .f32⟩
  | .hbm, ⟨72, _⟩ => ⟨S1024, .f32⟩
  | .hbm, ⟨73, _⟩ => ⟨S1x1024, .f32⟩
  | .hbm, ⟨74, _⟩ => ⟨S1x1024, .f32⟩
  | .hbm, ⟨75, _⟩ => ⟨S32768x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1536, .bf16⟩
  | .local _ .vmem, ⟨3, _⟩ => ⟨S256x1536, .bf16⟩
  | .local _ .vmem, ⟨4, _⟩ => ⟨S256x128, .f32⟩
  | .local _ .vmem, ⟨5, _⟩ => ⟨S256x128, .f32⟩
  | .local _ .vmem, ⟨6, _⟩ => ⟨S1x16x256, .f32⟩
  | .local _ .vmem, ⟨7, _⟩ => ⟨S1x16x256, .f32⟩
  | .local _ .vmem, ⟨8, _⟩ => ⟨S4x1536, .f32⟩
  | .local _ .vmem, ⟨9, _⟩ => ⟨S1x1536, .f32⟩
  | .local _ .vmem, ⟨10, _⟩ => ⟨S1x128, .f32⟩
  | .local _ .vmem, ⟨11, _⟩ => ⟨S16x1, .f32⟩
  | .local _ .vmem, ⟨12, _⟩ => ⟨S1x128, .f32⟩
  | .local _ .vmem, ⟨13, _⟩ => ⟨S16x1, .f32⟩
  | .local _ .vmem, ⟨14, _⟩ => ⟨S1x1024, .f32⟩
  | .local _ .vmem, ⟨15, _⟩ => ⟨S1x1024, .f32⟩
  | .local _ .vmem, ⟨16, _⟩ => ⟨S256x1024, .bf16⟩
  | .local _ .vmem, ⟨17, _⟩ => ⟨S768x256, .bf16⟩
  | .local _ .vmem, ⟨18, _⟩ => ⟨S256x1024, .bf16⟩
  | .local _ .vmem, ⟨19, _⟩ => ⟨S256x1024, .bf16⟩
  | .local _ .vmem, ⟨20, _⟩ => ⟨S16x1536, .f32⟩
  | .local _ .vmem, ⟨21, _⟩ => ⟨S2x128x512, .f32⟩
  | .local _ .vmem, ⟨22, _⟩ => ⟨S256x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_c_5 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S768x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== SsdIdeal.lean ====
variable {F : FTy → Type} [FloatOps F] [Named F]
def κ : String → Option EReal := fun
  | "mask" => some ⊥
  | "neg_log2e" => some ((-((Real.log 2)⁻¹) : ℝ) : EReal)
  | _ => none
-- ==== SsdRefIdeal.lean ====
abbrev S32768x1024 : Shape := ⟨2, ![32768, 1024]⟩
abbrev S32768x1536 : Shape := ⟨2, ![32768, 1536]⟩
abbrev S32768x128 : Shape := ⟨2, ![32768, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S8x4096x1536 : Shape := ⟨3, ![8, 4096, 1536]⟩
abbrev S_ : Shape := ⟨0, ![]⟩
abbrev S8x3x1536 : Shape := ⟨3, ![8, 3, 1536]⟩
abbrev S8x4099x1536 : Shape := ⟨3, ![8, 4099, 1536]⟩
abbrev S1x1536 : Shape := ⟨2, ![1, 1536]⟩
abbrev S1x1x1536 : Shape := ⟨3, ![1, 1, 1536]⟩
abbrev S8x4096x1024 : Shape := ⟨3, ![8, 4096, 1024]⟩
abbrev S8x4096x256 : Shape := ⟨3, ![8, 4096, 256]⟩
abbrev S8x4096x2x8x64 : Shape := ⟨5, ![8, 4096, 2, 8, 64]⟩
abbrev S32768x16 : Shape := ⟨2, ![32768, 16]⟩
abbrev S8x4096x16 : Shape := ⟨3, ![8, 4096, 16]⟩
abbrev S1x1x16 : Shape := ⟨3, ![1, 1, 16]⟩
abbrev S8x4096x2x8 : Shape := ⟨4, ![8, 4096, 2, 8]⟩
abbrev S2x8 : Shape := ⟨2, ![2, 8]⟩
abbrev S8x4096x2x8x1 : Shape := ⟨5, ![8, 4096, 2, 8, 1]⟩
abbrev S8x16x256x2x8x64 : Shape := ⟨6, ![8, 16, 256, 2, 8, 64]⟩
abbrev S8x16x256x2x128 : Shape := ⟨5, ![8, 16, 256, 2, 128]⟩
abbrev S1x1x2x8 : Shape := ⟨4, ![1, 1, 2, 8]⟩
abbrev S8x16x256x2x8 : Shape := ⟨5, ![8, 16, 256, 2, 8]⟩
abbrev S8x2x8x16x256 : Shape := ⟨5, ![8, 2, 8, 16, 256]⟩
abbrev S256x256 : Shape := ⟨2, ![256, 256]⟩
abbrev S8x2x8x16x256x1 : Shape := ⟨6, ![8, 2, 8, 16, 256, 1]⟩
abbrev S8x2x8x16x1x256 : Shape := ⟨6, ![8, 2, 8, 16, 1, 256]⟩
abbrev S8x2x8x16x256x256 : Shape := ⟨6, ![8, 2, 8, 16, 256, 256]⟩
abbrev S8x2x16x256x256 : Shape := ⟨5, ![8, 2, 16, 256, 256]⟩
abbrev S8x2x1x16x256x256 : Shape := ⟨6, ![8, 2, 1, 16, 256, 256]⟩
abbrev S8x16x2x8x64x256 : Shape := ⟨6, ![8, 16, 2, 8, 64, 256]⟩
abbrev S8x2x8x16x1 : Shape := ⟨5, ![8, 2, 8, 16, 1]⟩
abbrev S8x16x256x2x8x1 : Shape := ⟨6, ![8, 16, 256, 2, 8, 1]⟩
abbrev S8x16x2x8x64x128 : Shape := ⟨6, ![8, 16, 2, 8, 64, 128]⟩
abbrev S8x2x8x16 : Shape := ⟨4, ![8, 2, 8, 16]⟩
abbrev S8x2x8x64x128 : Shape := ⟨5, ![8, 2, 8, 64, 128]⟩
abbrev S16x8x2x8x64x128 : Shape := ⟨6, ![16, 8, 2, 8, 64, 128]⟩
abbrev S16x8x2x8 : Shape := ⟨4, ![16, 8, 2, 8]⟩
abbrev S0x8x2x8x64x128 : Shape := ⟨6, ![0, 8, 2, 8, 64, 128]⟩
abbrev S0x8x2x8 : Shape := ⟨4, ![0, 8, 2, 8]⟩
abbrev S1x8x2x8x64x128 : Shape := ⟨6, ![1, 8, 2, 8, 64, 128]⟩
abbrev S1x8x2x8 : Shape := ⟨4, ![1, 8, 2, 8]⟩
abbrev S8x2x8 : Shape := ⟨3, ![8, 2, 8]⟩
abbrev S8x2x8x1x1 : Shape := ⟨5, ![8, 2, 8, 1, 1]⟩
abbrev S2x8x1 : Shape := ⟨3, ![2, 8, 1]⟩
abbrev S1x1x2x8x1 : Shape := ⟨5, ![1, 1, 2, 8, 1]⟩
abbrev S8x4096x2x512 : Shape := ⟨4, ![8, 4096, 2, 512]⟩
abbrev S8x4096x2 : Shape := ⟨3, ![8, 4096, 2]⟩
abbrev S8x4096x2x1 : Shape := ⟨4, ![8, 4096, 2, 1]⟩
abbrev S2x512 : Shape := ⟨2, ![2, 512]⟩
abbrev S1x1x2x512 : Shape := ⟨4, ![1, 1, 2, 512]⟩

abbrev nBuf : Space → Nat
  | .hbm => 340
  | .vmem => 0
  | .smem => 0
  | _ => 0

abbrev hbmTy0_0 (i : Nat) : BufTy := match i % 128 with
  | 0 => ⟨S32768x1024, .bf16⟩
  | 1 => ⟨S32768x1536, .bf16⟩
  | 2 => ⟨S32768x128, .f32⟩
  | 3 => ⟨S4x1536, .f32⟩
  | 4 => ⟨S1536, .f32⟩
  | 5 => ⟨S16, .f32⟩
  | 6 => ⟨S16, .f32⟩
  | 7 => ⟨S16, .f32⟩
  | 8 => ⟨S1024, .f32⟩
  | 9 => ⟨S32768x1536, .f32⟩
  | 10 => ⟨S8x4096x1536, .f32⟩
  | 11 => ⟨S_, .f32⟩
  | 12 => ⟨S8x3x1536, .f32⟩
  | 13 => ⟨S8x4099x1536, .f32⟩
  | 14 => ⟨S8x4096x1536, .f32⟩
  | 15 => ⟨S1x1536, .f32⟩
  | 16 => ⟨S1536, .f32⟩
  | 17 => ⟨S1x1x1536, .f32⟩
  | 18 => ⟨S8x4096x1536, .f32⟩
  | 19 => ⟨S8x4096x1536, .f32⟩
  | 20 => ⟨S_, .f32⟩
  | 21 => ⟨S8x4096x1536, .f32⟩
  | 22 => ⟨S8x4096x1536, .f32⟩
  | 23 => ⟨S8x4096x1536, .f32⟩
  | 24 => ⟨S1x1536, .f32⟩
  | 25 => ⟨S1536, .f32⟩
  | 26 => ⟨S1x1x1536, .f32⟩
  | 27 => ⟨S8x4096x1536, .f32⟩
  | 28 => ⟨S8x4096x1536, .f32⟩
  | 29 => ⟨S8x4096x1536, .f32⟩
  | 30 => ⟨S8x4096x1536, .f32⟩
  | 31 => ⟨S1x1536, .f32⟩
  | 32 => ⟨S1536, .f32⟩
  | 33 => ⟨S1x1x1536, .f32⟩
  | 34 => ⟨S8x4096x1536, .f32⟩
  | 35 => ⟨S8x4096x1536, .f32⟩
  | 36 => ⟨S8x4096x1536, .f32⟩
  | 37 => ⟨S8x4096x1536, .f32⟩
  | 38 => ⟨S1x1536, .f32⟩
  | 39 => ⟨S1536, .f32⟩
  | 40 => ⟨S1x1x1536, .f32⟩
  | 41 => ⟨S8x4096x1536, .f32⟩
  | 42 => ⟨S8x4096x1536, .f32⟩
  | 43 => ⟨S8x4096x1536, .f32⟩
  | 44 => ⟨S1x1x1536, .f32⟩
  | 45 => ⟨S8x4096x1536, .f32⟩
  | 46 => ⟨S8x4096x1536, .f32⟩
  | 47 => ⟨S8x4096x1536, .f32⟩
  | 48 => ⟨S8x4096x1536, .f32⟩
  | 49 => ⟨S_, .f32⟩
  | 50 => ⟨S8x4096x1536, .f32⟩
  | 51 => ⟨S8x4096x1536, .f32⟩
  | 52 => ⟨S_, .f32⟩
  | 53 => ⟨S8x4096x1536, .f32⟩
  | 54 => ⟨S8x4096x1536, .f32⟩
  | 55 => ⟨S8x4096x1536, .f32⟩
  | 56 => ⟨S8x4096x1024, .f32⟩
  | 57 => ⟨S8x4096x256, .f32⟩
  | 58 => ⟨S8x4096x256, .f32⟩
  | 59 => ⟨S8x4096x2x8x64, .f32⟩
  | 60 => ⟨S32768x16, .f32⟩
  | 61 => ⟨S8x4096x16, .f32⟩
  | 62 => ⟨S1x1x16, .f32⟩
  | 63 => ⟨S8x4096x16, .f32⟩
  | 64 => ⟨S8x4096x16, .f32⟩
  | 65 => ⟨S_, .f32⟩
  | 66 => ⟨S8x4096x16, .f32⟩
  | 67 => ⟨S8x4096x16, .f32⟩
  | 68 => ⟨S8x4096x16, .f32⟩
  | 69 => ⟨S8x4096x16, .f32⟩
  | 70 => ⟨S8x4096x16, .i1⟩
  | 71 => ⟨S8x4096x16, .f32⟩
  | 72 => ⟨S8x4096x16, .f32⟩
  | 73 => ⟨S8x4096x16, .f32⟩
  | 74 => ⟨S8x4096x16, .f32⟩
  | 75 => ⟨S8x4096x16, .f32⟩
  | 76 => ⟨S8x4096x16, .f32⟩
  | 77 => ⟨S8x4096x16, .f32⟩
  | 78 => ⟨S8x4096x16, .f32⟩
  | 79 => ⟨S8x4096x2x8, .f32⟩
  | 80 => ⟨S16, .f32⟩
  | 81 => ⟨S2x8, .f32⟩
  | 82 => ⟨S2x8, .f32⟩
  | 83 => ⟨S8x4096x2x8x1, .f32⟩
  | 84 => ⟨S8x4096x2x8x64, .f32⟩
  | 85 => ⟨S8x4096x2x8x64, .f32⟩
  | 86 => ⟨S8x16x256x2x8x64, .f32⟩
  | 87 => ⟨S8x16x256x2x128, .f32⟩
  | 88 => ⟨S8x16x256x2x128, .f32⟩
  | 89 => ⟨S1x1x2x8, .f32⟩
  | 90 => ⟨S8x4096x2x8, .f32⟩
  | 91 => ⟨S8x4096x2x8, .f32⟩
  | 92 => ⟨S8x16x256x2x8, .f32⟩
  | 93 => ⟨S8x2x8x16x256, .f32⟩
  | 94 => ⟨S_, .f32⟩
  | 95 => ⟨S_, .f32⟩
  | 96 => ⟨S8x2x8x16x256, .f32⟩
  | 97 => ⟨S_, .i1⟩
  | 98 => ⟨S256x256, .i1⟩
  | 99 => ⟨S256x256, .i32⟩
  | 100 => ⟨S_, .i32⟩
  | 101 => ⟨S256x256, .i32⟩
  | 102 => ⟨S256x256, .i32⟩
  | 103 => ⟨S256x256, .i32⟩
  | 104 => ⟨S256x256, .i1⟩
  | 105 => ⟨S_, .i1⟩
  | 106 => ⟨S256x256, .i1⟩
  | 107 => ⟨S256x256, .i1⟩
  | 108 => ⟨S8x2x8x16x256x1, .f32⟩
  | 109 => ⟨S8x2x8x16x1x256, .f32⟩
  | 110 => ⟨S8x2x8x16x256x256, .f32⟩
  | 111 => ⟨S8x2x8x16x256x256, .f32⟩
  | 112 => ⟨S8x2x8x16x256x256, .f32⟩
  | 113 => ⟨S_, .f32⟩
  | 114 => ⟨S_, .f32⟩
  | 115 => ⟨S8x2x8x16x256x256, .i1⟩
  | 116 => ⟨S8x2x8x16x256x256, .f32⟩
  | 117 => ⟨S8x2x8x16x256x256, .f32⟩
  | 118 => ⟨S8x2x8x16x256x256, .f32⟩
  | 119 => ⟨S8x2x16x256x256, .f32⟩
  | 120 => ⟨S8x2x1x16x256x256, .f32⟩
  | 121 => ⟨S8x2x8x16x256x256, .f32⟩
  | 122 => ⟨S8x2x8x16x256x256, .f32⟩
  | 123 => ⟨S8x16x2x8x64x256, .f32⟩
  | 124 => ⟨S8x16x256x2x8x64, .f32⟩
  | 125 => ⟨S8x2x8x16x1, .f32⟩
  | 126 => ⟨S8x2x8x16x256, .f32⟩
  | 127 => ⟨S8x2x8x16x256, .f32⟩
  | _ => ⟨S32768x1024, .bf16⟩

abbrev hbmTy0_1 (i : Nat) : BufTy := match i % 128 with
  | 0 => ⟨S8x2x8x16x256, .f32⟩
  | 1 => ⟨S8x16x256x2x8, .f32⟩
  | 2 => ⟨S8x16x256x2x8x1, .f32⟩
  | 3 => ⟨S8x16x256x2x8x64, .f32⟩
  | 4 => ⟨S8x16x256x2x8x64, .f32⟩
  | 5 => ⟨S8x16x2x8x64x128, .f32⟩
  | 6 => ⟨S8x2x8x16x1, .f32⟩
  | 7 => ⟨S8x2x8x16, .f32⟩
  | 8 => ⟨S8x2x8x16, .f32⟩
  | 9 => ⟨S_, .f32⟩
  | 10 => ⟨S8x2x8x64x128, .f32⟩
  | 11 => ⟨S16x8x2x8x64x128, .f32⟩
  | 12 => ⟨S16x8x2x8, .f32⟩
  | 13 => ⟨S0x8x2x8x64x128, .f32⟩
  | 14 => ⟨S16x8x2x8x64x128, .f32⟩
  | 15 => ⟨S0x8x2x8, .f32⟩
  | 16 => ⟨S16x8x2x8, .f32⟩
  | 17 => ⟨S_, .f32⟩
  | 18 => ⟨S0x8x2x8x64x128, .f32⟩
  | 19 => ⟨S1x8x2x8x64x128, .f32⟩
  | 20 => ⟨S8x2x8x64x128, .f32⟩
  | 21 => ⟨S1x8x2x8, .f32⟩
  | 22 => ⟨S8x2x8, .f32⟩
  | 23 => ⟨S8x2x8x1x1, .f32⟩
  | 24 => ⟨S8x2x8x64x128, .f32⟩
  | 25 => ⟨S8x2x8x64x128, .f32⟩
  | 26 => ⟨S8x2x8x64x128, .f32⟩
  | 27 => ⟨S1x8x2x8x64x128, .f32⟩
  | 28 => ⟨S8x2x8x64x128, .f32⟩
  | 29 => ⟨S1x8x2x8, .f32⟩
  | 30 => ⟨S8x2x8, .f32⟩
  | 31 => ⟨S8x2x8x1x1, .f32⟩
  | 32 => ⟨S8x2x8x64x128, .f32⟩
  | 33 => ⟨S8x2x8x64x128, .f32⟩
  | 34 => ⟨S8x2x8x64x128, .f32⟩
  | 35 => ⟨S1x8x2x8x64x128, .f32⟩
  | 36 => ⟨S8x2x8x64x128, .f32⟩
  | 37 => ⟨S1x8x2x8, .f32⟩
  | 38 => ⟨S8x2x8, .f32⟩
  | 39 => ⟨S8x2x8x1x1, .f32⟩
  | 40 => ⟨S8x2x8x64x128, .f32⟩
  | 41 => ⟨S8x2x8x64x128, .f32⟩
  | 42 => ⟨S8x2x8x64x128, .f32⟩
  | 43 => ⟨S1x8x2x8x64x128, .f32⟩
  | 44 => ⟨S8x2x8x64x128, .f32⟩
  | 45 => ⟨S1x8x2x8, .f32⟩
  | 46 => ⟨S8x2x8, .f32⟩
  | 47 => ⟨S8x2x8x1x1, .f32⟩
  | 48 => ⟨S8x2x8x64x128, .f32⟩
  | 49 => ⟨S8x2x8x64x128, .f32⟩
  | 50 => ⟨S8x2x8x64x128, .f32⟩
  | 51 => ⟨S1x8x2x8x64x128, .f32⟩
  | 52 => ⟨S8x2x8x64x128, .f32⟩
  | 53 => ⟨S1x8x2x8, .f32⟩
  | 54 => ⟨S8x2x8, .f32⟩
  | 55 => ⟨S8x2x8x1x1, .f32⟩
  | 56 => ⟨S8x2x8x64x128, .f32⟩
  | 57 => ⟨S8x2x8x64x128, .f32⟩
  | 58 => ⟨S8x2x8x64x128, .f32⟩
  | 59 => ⟨S1x8x2x8x64x128, .f32⟩
  | 60 => ⟨S8x2x8x64x128, .f32⟩
  | 61 => ⟨S1x8x2x8, .f32⟩
  | 62 => ⟨S8x2x8, .f32⟩
  | 63 => ⟨S8x2x8x1x1, .f32⟩
  | 64 => ⟨S8x2x8x64x128, .f32⟩
  | 65 => ⟨S8x2x8x64x128, .f32⟩
  | 66 => ⟨S8x2x8x64x128, .f32⟩
  | 67 => ⟨S1x8x2x8x64x128, .f32⟩
  | 68 => ⟨S8x2x8x64x128, .f32⟩
  | 69 => ⟨S1x8x2x8, .f32⟩
  | 70 => ⟨S8x2x8, .f32⟩
  | 71 => ⟨S8x2x8x1x1, .f32⟩
  | 72 => ⟨S8x2x8x64x128, .f32⟩
  | 73 => ⟨S8x2x8x64x128, .f32⟩
  | 74 => ⟨S8x2x8x64x128, .f32⟩
  | 75 => ⟨S1x8x2x8x64x128, .f32⟩
  | 76 => ⟨S8x2x8x64x128, .f32⟩
  | 77 => ⟨S1x8x2x8, .f32⟩
  | 78 => ⟨S8x2x8, .f32⟩
  | 79 => ⟨S8x2x8x1x1, .f32⟩
  | 80 => ⟨S8x2x8x64x128, .f32⟩
  | 81 => ⟨S8x2x8x64x128, .f32⟩
  | 82 => ⟨S8x2x8x64x128, .f32⟩
  | 83 => ⟨S1x8x2x8x64x128, .f32⟩
  | 84 => ⟨S8x2x8x64x128, .f32⟩
  | 85 => ⟨S1x8x2x8, .f32⟩
  | 86 => ⟨S8x2x8, .f32⟩
  | 87 => ⟨S8x2x8x1x1, .f32⟩
  | 88 => ⟨S8x2x8x64x128, .f32⟩
  | 89 => ⟨S8x2x8x64x128, .f32⟩
  | 90 => ⟨S8x2x8x64x128, .f32⟩
  | 91 => ⟨S1x8x2x8x64x128, .f32⟩
  | 92 => ⟨S8x2x8x64x128, .f32⟩
  | 93 => ⟨S1x8x2x8, .f32⟩
  | 94 => ⟨S8x2x8, .f32⟩
  | 95 => ⟨S8x2x8x1x1, .f32⟩
  | 96 => ⟨S8x2x8x64x128, .f32⟩
  | 97 => ⟨S8x2x8x64x128, .f32⟩
  | 98 => ⟨S8x2x8x64x128, .f32⟩
  | 99 => ⟨S1x8x2x8x64x128, .f32⟩
  | 100 => ⟨S8x2x8x64x128, .f32⟩
  | 101 => ⟨S1x8x2x8, .f32⟩
  | 102 => ⟨S8x2x8, .f32⟩
  | 103 => ⟨S8x2x8x1x1, .f32⟩
  | 104 => ⟨S8x2x8x64x128, .f32⟩
  | 105 => ⟨S8x2x8x64x128, .f32⟩
  | 106 => ⟨S8x2x8x64x128, .f32⟩
  | 107 => ⟨S1x8x2x8x64x128, .f32⟩
  | 108 => ⟨S8x2x8x64x128, .f32⟩
  | 109 => ⟨S1x8x2x8, .f32⟩
  | 110 => ⟨S8x2x8, .f32⟩
  | 111 => ⟨S8x2x8x1x1, .f32⟩
  | 112 => ⟨S8x2x8x64x128, .f32⟩
  | 113 => ⟨S8x2x8x64x128, .f32⟩
  | 114 => ⟨S8x2x8x64x128, .f32⟩
  | 115 => ⟨S1x8x2x8x64x128, .f32⟩
  | 116 => ⟨S8x2x8x64x128, .f32⟩
  | 117 => ⟨S1x8x2x8, .f32⟩
  | 118 => ⟨S8x2x8, .f32⟩
  | 119 => ⟨S8x2x8x1x1, .f32⟩
  | 120 => ⟨S8x2x8x64x128, .f32⟩
  | 121 => ⟨S8x2x8x64x128, .f32⟩
  | 122 => ⟨S8x2x8x64x128, .f32⟩
  | 123 => ⟨S1x8x2x8x64x128, .f32⟩
  | 124 => ⟨S8x2x8x64x128, .f32⟩
  | 125 => ⟨S1x8x2x8, .f32⟩
  | 126 => ⟨S8x2x8, .f32⟩
  | 127 => ⟨S8x2x8x1x1, .f32⟩
  | _ => ⟨S32768x1024, .bf16⟩

abbrev hbmTy0_2 (i : Nat) : BufTy := match i % 128 with
  | 0 => ⟨S8x2x8x64x128, .f32⟩
  | 1 => ⟨S8x2x8x64x128, .f32⟩
  | 2 => ⟨S8x2x8x64x128, .f32⟩
  | 3 => ⟨S1x8x2x8x64x128, .f32⟩
  | 4 => ⟨S8x2x8x64x128, .f32⟩
  | 5 => ⟨S1x8x2x8, .f32⟩
  | 6 => ⟨S8x2x8, .f32⟩
  | 7 => ⟨S8x2x8x1x1, .f32⟩
  | 8 => ⟨S8x2x8x64x128, .f32⟩
  | 9 => ⟨S8x2x8x64x128, .f32⟩
  | 10 => ⟨S8x2x8x64x128, .f32⟩
  | 11 => ⟨S1x8x2x8x64x128, .f32⟩
  | 12 => ⟨S8x2x8x64x128, .f32⟩
  | 13 => ⟨S1x8x2x8, .f32⟩
  | 14 => ⟨S8x2x8, .f32⟩
  | 15 => ⟨S8x2x8x1x1, .f32⟩
  | 16 => ⟨S8x2x8x64x128, .f32⟩
  | 17 => ⟨S8x2x8x64x128, .f32⟩
  | 18 => ⟨S8x2x8x64x128, .f32⟩
  | 19 => ⟨S1x8x2x8x64x128, .f32⟩
  | 20 => ⟨S1x8x2x8x64x128, .f32⟩
  | 21 => ⟨S1x8x2x8x64x128, .f32⟩
  | 22 => ⟨S1x8x2x8x64x128, .f32⟩
  | 23 => ⟨S1x8x2x8x64x128, .f32⟩
  | 24 => ⟨S1x8x2x8x64x128, .f32⟩
  | 25 => ⟨S1x8x2x8x64x128, .f32⟩
  | 26 => ⟨S1x8x2x8x64x128, .f32⟩
  | 27 => ⟨S1x8x2x8x64x128, .f32⟩
  | 28 => ⟨S1x8x2x8x64x128, .f32⟩
  | 29 => ⟨S1x8x2x8x64x128, .f32⟩
  | 30 => ⟨S1x8x2x8x64x128, .f32⟩
  | 31 => ⟨S1x8x2x8x64x128, .f32⟩
  | 32 => ⟨S1x8x2x8x64x128, .f32⟩
  | 33 => ⟨S1x8x2x8x64x128, .f32⟩
  | 34 => ⟨S1x8x2x8x64x128, .f32⟩
  | 35 => ⟨S16x8x2x8x64x128, .f32⟩
  | 36 => ⟨S16x8x2x8x64x128, .f32⟩
  | 37 => ⟨S8x16x2x8x64x128, .f32⟩
  | 38 => ⟨S8x16x2x8x64x256, .f32⟩
  | 39 => ⟨S8x16x256x2x8x64, .f32⟩
  | 40 => ⟨S8x2x8x16x256, .f32⟩
  | 41 => ⟨S8x16x256x2x8, .f32⟩
  | 42 => ⟨S8x16x256x2x8x1, .f32⟩
  | 43 => ⟨S8x16x256x2x8x64, .f32⟩
  | 44 => ⟨S8x16x256x2x8x64, .f32⟩
  | 45 => ⟨S8x16x256x2x8x64, .f32⟩
  | 46 => ⟨S8x4096x2x8x64, .f32⟩
  | 47 => ⟨S2x8x1, .f32⟩
  | 48 => ⟨S1x1x2x8x1, .f32⟩
  | 49 => ⟨S8x4096x2x8x64, .f32⟩
  | 50 => ⟨S8x4096x2x8x64, .f32⟩
  | 51 => ⟨S8x4096x2x8x64, .f32⟩
  | 52 => ⟨S32768x1024, .f32⟩
  | 53 => ⟨S8x4096x2x512, .f32⟩
  | 54 => ⟨S8x4096x2x512, .f32⟩
  | 55 => ⟨S8x4096x2x512, .f32⟩
  | 56 => ⟨S8x4096x2x512, .f32⟩
  | 57 => ⟨S_, .f32⟩
  | 58 => ⟨S8x4096x2x512, .f32⟩
  | 59 => ⟨S8x4096x2x512, .f32⟩
  | 60 => ⟨S_, .f32⟩
  | 61 => ⟨S8x4096x2x512, .f32⟩
  | 62 => ⟨S8x4096x2x512, .f32⟩
  | 63 => ⟨S8x4096x2x512, .f32⟩
  | 64 => ⟨S8x4096x2x512, .f32⟩
  | 65 => ⟨S8x4096x2x512, .f32⟩
  | 66 => ⟨S_, .f32⟩
  | 67 => ⟨S8x4096x2, .f32⟩
  | 68 => ⟨S8x4096x2x1, .f32⟩
  | 69 => ⟨S_, .f32⟩
  | 70 => ⟨S8x4096x2x1, .f32⟩
  | 71 => ⟨S8x4096x2x1, .f32⟩
  | 72 => ⟨S_, .f32⟩
  | 73 => ⟨S8x4096x2x1, .f32⟩
  | 74 => ⟨S8x4096x2x1, .f32⟩
  | 75 => ⟨S8x4096x2x1, .f32⟩
  | 76 => ⟨S8x4096x2x512, .f32⟩
  | 77 => ⟨S8x4096x2x512, .f32⟩
  | 78 => ⟨S2x512, .f32⟩
  | 79 => ⟨S1x1x2x512, .f32⟩
  | 80 => ⟨S8x4096x2x512, .f32⟩
  | 81 => ⟨S8x4096x2x512, .f32⟩
  | 82 => ⟨S32768x1024, .f32⟩
  | 83 => ⟨S32768x1024, .bf16⟩
  | _ => ⟨S32768x1024, .bf16⟩

abbrev hbmTy (i : Nat) : BufTy := match i / 128 with
  | 0 => hbmTy0_0 i
  | 1 => hbmTy0_1 i
  | 2 => hbmTy0_2 i
  | _ => ⟨S32768x1024, .bf16⟩

abbrev bufTy : (tb : Table) → Fin (tcTables nBuf tb) → BufTy
  | .hbm, ⟨i, _⟩ => hbmTy i
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_call2_call0_cst : Ref sig .tc := ⟨.hbm, 94, rfl⟩
abbrev main_call2_call0_v0 : Ref sig .tc := ⟨.hbm, 95, rfl⟩
abbrev main_v62 : Ref sig .tc := ⟨.hbm, 96, rfl⟩
abbrev main_c : Ref sig .tc := ⟨.hbm, 97, rfl⟩
abbrev main_v63 : Ref sig .tc := ⟨.hbm, 98, rfl⟩
abbrev main_call3_v0 : Ref sig .tc := ⟨.hbm, 99, rfl⟩
abbrev main_call3_c : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_c_0 : Ref sig .tc := ⟨.hbm, 105, rfl⟩
abbrev main_call3_v5 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_1 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_2 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_3 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_v258 : Ref sig .tc := ⟨.hbm, 307, rfl⟩
abbrev main_v259 : Ref sig .tc := ⟨.hbm, 308, rfl⟩
abbrev main_v260 : Ref sig .tc := ⟨.hbm, 309, rfl⟩
abbrev main_v261 : Ref sig .tc := ⟨.hbm, 310, rfl⟩
abbrev main_call5_v0 : Ref sig .tc := ⟨.hbm, 311, rfl⟩
abbrev main_call5_v1 : Ref sig .tc := ⟨.hbm, 312, rfl⟩
abbrev main_call5_cst : Ref sig .tc := ⟨.hbm, 313, rfl⟩
abbrev main_call5_v2 : Ref sig .tc := ⟨.hbm, 314, rfl⟩
abbrev main_call5_v3 : Ref sig .tc := ⟨.hbm, 315, rfl⟩
abbrev main_call5_cst_0 : Ref sig .tc := ⟨.hbm, 316, rfl⟩
abbrev main_call5_v4 : Ref sig .tc := ⟨.hbm, 317, rfl⟩
abbrev main_call5_v5 : Ref sig .tc := ⟨.hbm, 318, rfl⟩
abbrev main_v262 : Ref sig .tc := ⟨.hbm, 319, rfl⟩
abbrev main_v263 : Ref sig .tc := ⟨.hbm, 320, rfl⟩
abbrev main_v264 : Ref sig .tc := ⟨.hbm, 321, rfl⟩
abbrev main_cst_4 : Ref sig .tc := ⟨.hbm, 322, rfl⟩
abbrev main_v265 : Ref sig .tc := ⟨.hbm, 323, rfl⟩
abbrev main_v266 : Ref sig .tc := ⟨.hbm, 324, rfl⟩
abbrev main_cst_5 : Ref sig .tc := ⟨.hbm, 325, rfl⟩
abbrev main_v267 : Ref sig .tc := ⟨.hbm, 326, rfl⟩
abbrev main_v268 : Ref sig .tc := ⟨.hbm, 327, rfl⟩
abbrev main_cst_6 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_v274 : Ref sig .tc := ⟨.hbm, 334, rfl⟩
abbrev main_v275 : Ref sig .tc := ⟨.hbm, 335, rfl⟩
abbrev main_v276 : Ref sig .tc := ⟨.hbm, 336, rfl⟩
abbrev main_v277 : Ref sig .tc := ⟨.hbm, 337, rfl⟩
abbrev main_v278 : Ref sig .tc := ⟨.hbm, 338, rfl⟩
abbrev main_v279 : Ref sig .tc := ⟨.hbm, 339, rfl⟩

abbrev nD : Nat := 1
abbrev τ : Topo := Topo.v7x

variable {F : FTy → Type} [FloatOps F]
-- ==== Merge.lean ====
abbrev S32768x1024 : Shape := ⟨2, ![32768, 1024]⟩
abbrev S32768x512 : Shape := ⟨2, ![32768, 512]⟩
abbrev S32768x2048 : Shape := ⟨2, ![32768, 2048]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S40x1024 : Shape := ⟨2, ![40, 1024]⟩
abbrev S4x1024 : Shape := ⟨2, ![4, 1024]⟩
abbrev S1 : Shape := ⟨1, ![1]⟩
abbrev S32x1024 : Shape := ⟨2, ![32, 1024]⟩
abbrev S40x1 : Shape := ⟨2, ![40, 1]⟩
abbrev S2 : Shape := ⟨1, ![2]⟩
abbrev S1x1024 : Shape := ⟨2, ![1, 1024]⟩
abbrev S32768x8x128 : Shape := ⟨3, ![32768, 8, 128]⟩
abbrev S8x32768 : Shape := ⟨2, ![8, 32768]⟩
abbrev S512x512 : Shape := ⟨2, ![512, 512]⟩
abbrev S512x2048 : Shape := ⟨2, ![512, 2048]⟩
abbrev S512x8x128 : Shape := ⟨3, ![512, 8, 128]⟩
abbrev S8x512 : Shape := ⟨2, ![8, 512]⟩
abbrev S512 : Shape := ⟨1, ![512]⟩
abbrev S512x1 : Shape := ⟨2, ![512, 1]⟩
abbrev S40x512 : Shape := ⟨2, ![40, 512]⟩
abbrev S1x512 : Shape := ⟨2, ![1, 512]⟩

abbrev nBuf : Space → Nat
  | .hbm => 45
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x1024, .bf16⟩
  | .hbm, ⟨3, _⟩ => ⟨S32768x2048, .bf16⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x4, .f32⟩
  | .hbm, ⟨9, _⟩ => ⟨S4, .f32⟩
  | .hbm, ⟨10, _⟩ => ⟨S1024x32, .f32⟩
  | .hbm, ⟨11, _⟩ => ⟨S32, .f32⟩
  | .hbm, ⟨12, _⟩ => ⟨S_, .f32⟩
  | .hbm, ⟨13, _⟩ => ⟨S40x1024, .f32⟩
  | .hbm, ⟨14, _⟩ => ⟨S4x1024, .f32⟩
  | .hbm, ⟨15, _⟩ => ⟨S_, .i32⟩
  | .hbm, ⟨16, _⟩ => ⟨S1, .i32⟩
  | .hbm, ⟨17, _⟩ => ⟨S40x1024, .f32⟩
  | .hbm, ⟨18, _⟩ => ⟨S32x1024, .f32⟩
  | .hbm, ⟨19, _⟩ => ⟨S_, .i32⟩
  | .hbm, ⟨20, _⟩ => ⟨S1, .i32⟩
  | .hbm, ⟨21, _⟩ => ⟨S40x1024, .f32⟩
  | .hbm, ⟨22, _⟩ => ⟨S40x1024, .bf16⟩
  | .hbm, ⟨23, _⟩ => ⟨S_, .f32⟩
  | .hbm, ⟨24, _⟩ => ⟨S40x1, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S40x1, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S40x1, .f32⟩
  | .hbm, ⟨37, _⟩ => ⟨S512x1024, .bf16⟩
  | .hbm, ⟨38, _⟩ => ⟨S1024x1024, .bf16⟩
  | .hbm, ⟨39, _⟩ => ⟨S1024x1024, .bf16⟩
  | .hbm, ⟨40, _⟩ => ⟨S1x1024, .f32⟩
  | .hbm, ⟨41, _⟩ => ⟨S32768x1024, .f32⟩
  | .hbm, ⟨42, _⟩ => ⟨S32768x8x128, .bf16⟩
  | .hbm, ⟨43, _⟩ => ⟨S8x32768, .i32⟩
  | .hbm, ⟨44, _⟩ => ⟨S8x32768, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S40x1024, .bf16⟩
  | .local _ .vmem, ⟨13, _⟩ => ⟨S40x1, .f32⟩
  | .local _ .vmem, ⟨14, _⟩ => ⟨S512x1024, .f32⟩
  | .local _ .vmem, ⟨15, _⟩ => ⟨S512x1024, .f32⟩
  | .local _ .vmem, ⟨16, _⟩ => ⟨S512x8x128, .bf16⟩
  | .local _ .vmem, ⟨17, _⟩ => ⟨S512x8x128, .bf16⟩
  | .local _ .vmem, ⟨18, _⟩ => ⟨S8x512, .i32⟩
  | .local _ .vmem, ⟨19, _⟩ => ⟨S8x512, .i32⟩
  | .local _ .vmem, ⟨20, _⟩ => ⟨S8x512, .f32⟩
  | .local _ .vmem, ⟨21, _⟩ => ⟨S8x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_4 : Ref sig .tc := ⟨.hbm, 31, rfl⟩
abbrev main_v13 : Ref sig .tc := ⟨.hbm, 32, rfl⟩
abbrev main_c_5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21_0 : Ref sig .tc := ⟨.hbm, 41, rfl⟩
abbrev main_v21_1 : Ref sig .tc := ⟨.hbm, 42, rfl⟩
abbrev main_v21_2 : Ref sig .tc := ⟨.hbm, 43, rfl⟩
abbrev main_v21_3 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S40x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S40x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x8x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S32768x1024 : Shape := ⟨2, ![32768, 1024]⟩
abbrev S32768x512 : Shape := ⟨2, ![32768, 512]⟩
abbrev S32768x2048 : Shape := ⟨2, ![32768, 2048]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8x128 : Shape := ⟨3, ![32768, 8, 128]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x1024, .bf16⟩
  | .hbm, ⟨3, _⟩ => ⟨S32768x2048, .bf16⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x4, .f32⟩
  | .hbm, ⟨9, _⟩ => ⟨S4, .f32⟩
  | .hbm, ⟨10, _⟩ => ⟨S1024x32, .f32⟩
  | .hbm, ⟨11, _⟩ => ⟨S32, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768x2048, .f32⟩
  | .hbm, ⟨17, _⟩ => ⟨S32768x2048, .f32⟩
  | .hbm, ⟨18, _⟩ => ⟨S_, .f32⟩
  | .hbm, ⟨19, _⟩ => ⟨S32768x2048, .f32⟩
  | .hbm, ⟨20, _⟩ => ⟨S32768x2048, .f32⟩
  | .hbm, ⟨21, _⟩ => ⟨S32768x1024, .f32⟩
  | .hbm, ⟨22, _⟩ => ⟨S32768x512, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S1x1024, .f32⟩
  | .hbm, ⟨46, _⟩ => ⟨S32768x1024, .f32⟩
  | .hbm, ⟨47, _⟩ => ⟨S32768x1024, .f32⟩
  | .hbm, ⟨48, _⟩ => ⟨S32768x1024, .bf16⟩
  | .hbm, ⟨49, _⟩ => ⟨S32768x8x128, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Proof.InProj.Value.lean ====
module

public import proofs.«01_k».proof.Proof.Gen.InProjIdeal.Value
public import proofs.«01_k».proof.Proof.Gen.InProjRefIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjIdeal.Proj

open Cert.InProjIdeal Cert.InProjIdeal.Gen

variable (m : (ℓ : Loc nD τ sig) → Buf (Elt Ideal) ℓ)

/-- The token vectors after the RMS normalization: row `r`, feature `k`. -/
def normed (X : FVec Ideal S32768x1024 .f32) (g : FVec Ideal S1024 .f32) (r : Fin 32768) (k : Fin 1024) : EReal :=
  X (ix2 r k) * Ideal.rsqrt (Ideal.div (∑ j : Fin 1024, X (ix2 r j) * X (ix2 r j)) (Ideal.ofBits .f32 0x44800000#32)
    + Ideal.ofBits .f32 0x358637BD#32) * g (ix1 k)

/-- Column `q` of the packed input projection of row `r`. -/
def proj (X : FVec Ideal S32768x1024 .f32) (g : FVec Ideal S1024 .f32) (W : FVec Ideal S1024x6272 .bf16)
    (r : Fin 32768) (q : Fin 6272) : EReal :=
  ∑ k : Fin 1024, normed X g r k * W (ix2 k q)

/-- Where every window's block sits at grid point `t`. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

/-- The block of tokens the body normalizes at point `t` holds rows `512 t …` of the normalized array. -/
theorem normed_block (c : Dev nD) (t : Fin cfg0.N) (a : Fin 512) (k : Fin 1024) (r : Fin 32768) (hr : r.val = t.val * 512 + a.val) :
    k0_pay4 (F := Ideal) (iblk m c 0 t) (iblk m c 1 t) (ix2 a k)
      = normed (m ((c : Thread nD τ).loc main_arg0)) (m ((c : Thread nD τ).loc main_arg1)) r k := by
  pointwise [k0_pay4, normed]
  blk_point [iblk, V, idx t]

/-- A product of the normalized block with column `q` of the weight block is that column of the projection. -/
theorem column (c : Dev nD) (t : Fin cfg0.N) (a : Fin 512) (q q' : Fin 6272) (r : Fin 32768) (hr : r.val = t.val * 512 + a.val)
    (hq : q.val = q'.val) :
    ∑ k : Fin 1024, k0_pay4 (F := Ideal) (iblk m c 0 t) (iblk m c 1 t) (ix2 a k) * (show FVec Ideal S1024x6272 .bf16 from iblk m c 2 t) (ix2 k q)
      = proj (m ((c : Thread nD τ).loc main_arg0)) (m ((c : Thread nD τ).loc main_arg1)) (m ((c : Thread nD τ).loc main_arg2)) r q' := by
  obtain rfl : q = q' := Fin.ext hq
  refine Finset.sum_congr rfl fun k _ => ?_
  rw [normed_block m c t a k r hr]
  congr 1
  blk_ext [iblk, V, idx t]

/-- Output 0 (the queries) after the run: columns `0 … 511` of the projection. -/
theorem final3 (c : Dev nD) : (dats m 0 c).arrAt 3 (cfgs 0).N = fun i : S32768x512.Idx =>
    proj (m ((c : Thread nD τ).loc main_arg0)) (m ((c : Thread nD τ).loc main_arg1)) (m ((c : Thread nD τ).loc main_arg2))
      ⟨(i 0).val, (i 0).isLt⟩ ⟨(i 1).val, by have : (i 1).val < 512 := (i 1).isLt; omega⟩ := by
  refine (dats m 0 c).arrAt_eq_of_covers 3 _ (by decide +kernel) fun t hf y => ?_
  blk_simp
  rw [after0_3]; unfold outsAt0; dsimp only; frame_out
  have ht : t.val < 64 := lt_of_lt_of_eq t.isLt N_0
  have y0 : (y 0).val < 512 := (y 0).isLt
  have y1 : (y 1).val < 512 := (y 1).isLt
  pointwise [k0_pay5]
  exact column m c t ⟨(y 0).val, y0⟩ ⟨(y 1).val, by omega⟩ _ _ (by blk_simp [idx t]) (by blk_simp [idx t])

/-- Output 1 (the keys and values to be compressed, sixteen tokens a row) after the run: columns `512 … 767` of the projection,
    the keys of sixteen consecutive tokens laid along the first half of a row and their values along the second. -/
theorem final4 (c : Dev nD) : (dats m 0 c).arrAt 4 (cfgs 0).N = fun i : S2048x4096.Idx =>
    proj (m ((c : Thread nD τ).loc main_arg0)) (m ((c : Thread nD τ).loc main_arg1)) (m ((c : Thread nD τ).loc main_arg2))
      ⟨16 * (i 0).val + (i 1).val % 2048 / 128, by have : (i 0).val < 2048 := (i 0).isLt; omega⟩
      ⟨512 + 128 * ((i 1).val / 2048) + (i 1).val % 128, by have : (i 1).val < 4096 := (i 1).isLt; omega⟩ := by
  refine (dats m 0 c).arrAt_eq_of_covers 4 _ (by decide +kernel) fun t hf y => ?_
  blk_simp
  rw [after0_4]; unfold outsAt0; dsimp only; frame_out
  have ht : t.val < 64 := lt_of_lt_of_eq t.isLt N_0
  canon_tiles x h
  case piece0 =>
    pointwise [k0_pay9, k0_pay8, k0_pay6]
    exact column m c t ⟨(x 0).val * 16 + (x 1).val / 128, by omega⟩ ⟨512 + (128 + (x 1).val % 128), by omega⟩ _ _
      (by blk_simp [idx t, h0, h1] <;> (dsimp only; omega)) (by blk_simp [idx t, h1] <;> (dsimp only; omega))
  case piece1 =>
    pointwise [k0_pay7, k0_pay6]
    exact column m c t ⟨(x 0).val * 16 + (x 1).val / 128, by omega⟩ ⟨512 + (x 1).val % 128, by omega⟩ _ _
      (by blk_simp [idx t, h0, h1] <;> (dsimp only; omega)) (by blk_simp [idx t, h1] <;> (dsimp only; omega))

/-- Output 2 (the keys and values of the selected and sliding branches) after the run: columns `768 … 1279` of the projection. -/
theorem final5 (c : Dev nD) : (dats m 0 c).arrAt 5 (cfgs 0).N = fun i : S32768x512.Idx =>
    proj (m ((c : Thread nD τ).loc main_arg0)) (m ((c : Thread nD τ).loc main_arg1)) (m ((c : Thread nD τ).loc main_arg2))
      ⟨(i 0).val, (i 0).isLt⟩ ⟨768 + (i 1).val, by have : (i 1).val < 512 := (i 1).isLt; omega⟩ := by
  refine (dats m 0 c).arrAt_eq_of_covers 5 _ (by decide +kernel) fun t hf y => ?_
  blk_simp
  rw [after0_5]; unfold outsAt0; dsimp only; frame_out
  have ht : t.val < 64 := lt_of_lt_of_eq t.isLt N_0
  have y0 : (y 0).val < 512 := (y 0).isLt
  have y1 : (y 1).val < 512 := (y 1).isLt
  pointwise [k0_pay10]
  exact column m c t ⟨(y 0).val, y0⟩ ⟨768 + (y 1).val, by omega⟩ _ _ (by blk_simp [idx t]) (by blk_simp [idx t])

/-- Output 3 (the branch gates) after the run: columns `1280 … 1535` of the projection. -/
theorem final6 (c : Dev nD) : (dats m 0 c).arrAt 6 (cfgs 0).N = fun i : S32768x256.Idx =>
    proj (m ((c : Thread nD τ).loc main_arg0)) (m ((c : Thread nD τ).loc main_arg1)) (m ((c : Thread nD τ).loc main_arg2))
      ⟨(i 0).val, (i 0).isLt⟩ ⟨1280 + (i 1).val, by have : (i 1).val < 256 := (i 1).isLt; omega⟩ := by
  refine (dats m 0 c).arrAt_eq_of_covers 6 _ (by decide +kernel) fun t hf y => ?_
  blk_simp
  rw [after0_6]; unfold outsAt0; dsimp only; frame_out
  have ht : t.val < 64 := lt_of_lt_of_eq t.isLt N_0
  have y0 : (y 0).val < 512 := (y 0).isLt
  have y1 : (y 1).val < 256 := (y 1).isLt
  pointwise [k0_pay11]
  exact column m c t ⟨(y 0).val, y0⟩ ⟨1280 + (y 1).val, by omega⟩ _ _ (by blk_simp [idx t]) (by blk_simp [idx t])

/-- Output 4 (the gate z) after the run: columns `1536 … 2559` of the projection. -/
theorem final7 (c : Dev nD) : (dats m 0 c).arrAt 7 (cfgs 0).N = fun i : S32768x1024.Idx =>
    proj (m ((c : Thread nD τ).loc main_arg0)) (m ((c : Thread nD τ).loc main_arg1)) (m ((c : Thread nD τ).loc main_arg2))
      ⟨(i 0).val, (i 0).isLt⟩ ⟨1536 + (i 1).val, by have : (i 1).val < 1024 := (i 1).isLt; omega⟩ := by
  refine (dats m 0 c).arrAt_eq_of_covers 7 _ (by decide +kernel) fun t hf y => ?_
  blk_simp
  rw [after0_7]; unfold outsAt0; dsimp only; frame_out
  have ht : t.val < 64 := lt_of_lt_of_eq t.isLt N_0
  canon_tiles x h
  case piece0 =>
    pointwise [k0_pay13]
    exact column m c t ⟨(x 0).val, x0_lt⟩ ⟨2048 + (x 1).val, by omega⟩ _ _ (by blk_simp [idx t, h0]) (by blk_simp [idx t, h1] <;> (dsimp only; omega))
  case piece1 =>
    pointwise [k0_pay12]
    exact column m c t ⟨(x 0).val, x0_lt⟩ ⟨1536 + (x 1).val, by omega⟩ _ _ (by blk_simp [idx t, h0]) (by blk_simp [idx t, h1] <;> (dsimp only; omega))

/-- Output 5 (the convolved channels) after the run: columns `2560 … 4095` of the projection. -/
theorem final8 (c : Dev nD) : (dats m 0 c).arrAt 8 (cfgs 0).N = fun i : S32768x1536.Idx =>
    proj (m ((c : Thread nD τ).loc main_arg0)) (m ((c : Thread nD τ).loc main_arg1)) (m ((c : Thread nD τ).loc main_arg2))
      ⟨(i 0).val, (i 0).isLt⟩ ⟨2560 + (i 1).val, by have : (i 1).val < 1536 := (i 1).isLt; omega⟩ := by
  refine (dats m 0 c).arrAt_eq_of_covers 8 _ (by decide +kernel) fun t hf y => ?_
  blk_simp
  rw [after0_8]; unfold outsAt0; dsimp only; frame_out
  have ht : t.val < 64 := lt_of_lt_of_eq t.isLt N_0
  canon_tiles x h
  case piece0 =>
    pointwise [k0_pay16]
    exact column m c t ⟨(x 0).val, x0_lt⟩ ⟨3584 + (x 1).val, by omega⟩ _ _ (by blk_simp [idx t, h0]) (by blk_simp [idx t, h1] <;> (dsimp only; omega))
  case piece1 =>
    pointwise [k0_pay15]
    exact column m c t ⟨(x 0).val, x0_lt⟩ ⟨3072 + (x 1).val, by omega⟩ _ _ (by blk_simp [idx t, h0]) (by blk_simp [idx t, h1] <;> (dsimp only; omega))
  case piece2 =>
    pointwise [k0_pay14]
    exact column m c t ⟨(x 0).val, x0_lt⟩ ⟨2560 + (x 1).val, by omega⟩ _ _ (by blk_simp [idx t, h0]) (by blk_simp [idx t, h1] <;> (dsimp only; omega))

/-- Output 6 (the step sizes) after the run: columns `4096 … 4223` of the projection. -/
theorem final9 (c : Dev nD) : (dats m 0 c).arrAt 9 (cfgs 0).N = fun i : S32768x128.Idx =>
    proj (m ((c : Thread nD τ).loc main_arg0)) (m ((c : Thread nD τ).loc main_arg1)) (m ((c : Thread nD τ).loc main_arg2))
      ⟨(i 0).val, (i 0).isLt⟩ ⟨4096 + (i 1).val, by have : (i 1).val < 128 := (i 1).isLt; omega⟩ := by
  refine (dats m 0 c).arrAt_eq_of_covers 9 _ (by decide +kernel) fun t hf y => ?_
  blk_simp
  rw [after0_9]; unfold outsAt0; dsimp only; frame_out
  have ht : t.val < 64 := lt_of_lt_of_eq t.isLt N_0
  have y0 : (y 0).val < 512 := (y 0).isLt
  have y1 : (y 1).val < 128 := (y 1).isLt
  pointwise [k0_pay17]
  exact column m c t ⟨(y 0).val, y0⟩ ⟨4096 + (y 1).val, by omega⟩ _ _ (by blk_simp [idx t]) (by blk_simp [idx t])

/-- Output 7 (the merge gates) after the run: columns `4224 … 6271` of the projection. -/
theorem final10 (c : Dev nD) : (dats m 0 c).arrAt 10 (cfgs 0).N = fun i : S32768x2048.Idx =>
    proj (m ((c : Thread nD τ).loc main_arg0)) (m ((c : Thread nD τ).loc main_arg1)) (m ((c : Thread nD τ).loc main_arg2))
      ⟨(i 0).val, (i 0).isLt⟩ ⟨4224 + (i 1).val, by have : (i 1).val < 2048 := (i 1).isLt; omega⟩ := by
  refine (dats m 0 c).arrAt_eq_of_covers 10 _ (by decide +kernel) fun t hf y => ?_
  blk_simp
  rw [after0_10]; unfold outsAt0; dsimp only; frame_out
  have ht : t.val < 64 := lt_of_lt_of_eq t.isLt N_0
  canon_tiles x h
  case piece0 =>
    pointwise [k0_pay3]
    exact column m c t ⟨(x 0).val, x0_lt⟩ ⟨5760 + (x 1).val, by omega⟩ _ _ (by blk_simp [idx t, h0]) (by blk_simp [idx t, h1] <;> (dsimp only; omega))
  case piece1 =>
    pointwise [k0_pay2]
    exact column m c t ⟨(x 0).val, x0_lt⟩ ⟨5248 + (x 1).val, by omega⟩ _ _ (by blk_simp [idx t, h0]) (by blk_simp [idx t, h1] <;> (dsimp only; omega))
  case piece2 =>
    pointwise [k0_pay1]
    exact column m c t ⟨(x 0).val, x0_lt⟩ ⟨4736 + (x 1).val, by omega⟩ _ _ (by blk_simp [idx t, h0]) (by blk_simp [idx t, h1] <;> (dsimp only; omega))
  case piece3 =>
    pointwise [k0_pay18]
    exact column m c t ⟨(x 0).val, x0_lt⟩ ⟨4224 + (x 1).val, by omega⟩ _ _ (by blk_simp [idx t, h0]) (by blk_simp [idx t, h1] <;> (dsimp only; omega))

end Cert.InProjIdeal.Proj
-- ==== Proof.InProj.Reference.lean ====
module

public import proofs.«01_k».proof.Defs
public import proofs.«01_k».proof.Proof.InProj.Value
public import proofs.«01_k».proof.Proof.Gen.InProjRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.InProjIdeal.Proj

open Cert.InProjRefIdeal.Read

/-- The reference's product, before it is cut into its eight parts, is the projection. -/
theorem ref_proj (X : FVec Ideal S32768x1024 .f32) (g : FVec Ideal S1024 .f32) (W : FVec Ideal S1024x6272 .bf16) (r : Fin 32768) (q : Fin 6272) :
    val_main_v14 (F := Ideal) X g W (ix2 r q) = proj X g W r q := by
  pointwise [proj, normed, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]

/-- The reference's second result at an index: sixteen tokens' keys, then their values, along a row. -/
theorem ref_kv (X : FVec Ideal S32768x1024 .f32) (g : FVec Ideal S1024 .f32) (W : FVec Ideal S1024x6272 .bf16) (a : Fin 2048) (b : Fin 4096) :
    val_main_v28 (F := Ideal) X g W (ix2 a b) = proj X g W ⟨16 * a.val + b.val % 2048 / 128, by omega⟩
      ⟨512 + 128 * (b.val / 2048) + b.val % 128, by omega⟩ := by
  pointwise [val_main_v28, val_main_v26, val_main_v24, val_main_v25, val_main_v16, val_main_v17]
  split
  · rw [ref_proj]; congr 1 <;> apply Fin.ext <;> dsimp only <;> omega
  · rw [ref_proj]; congr 1 <;> apply Fin.ext <;> dsimp only <;> omega

/-- At the ideal instance the kernel and the reference return the same eight arrays: each is a range of columns of one
    projection, which the reference computes whole and the kernel a block of rows and a range of columns at a time. -/
theorem algebraic : Cert.algebraic_InProjIdeal_InProjRefIdeal := by
  pair_intro
  · run_from Cert.InProjIdeal.Value.run_blocks (F := Ideal) m g
  · run_from Cert.InProjRefIdeal.Value.run (F := Ideal) m' g'
    · rw [final3 m c]; funext i; pointwise [proj, normed]
    · rw [final4 m c]; funext i
      rw [eq_ix2 i]
      refine Eq.trans ?_ (ref_kv (m (c.tc.loc main_arg0)) (m (c.tc.loc main_arg1)) (m (c.tc.loc main_arg2)) (i 0) (i 1))
      refine Eq.trans (congrFun (val_main_v28_eq (F := Ideal) _ _ _) _) ?_
      exact congrArg (fun W => val_main_v28 (F := Ideal) (m (c.tc.loc main_arg0)) (m (c.tc.loc main_arg1)) W (ix2 (i 0) (i 1))) (hagree c).2.2
    · rw [final5 m c]; funext i; pointwise [proj, normed]
    · rw [final6 m c]; funext i; pointwise [proj, normed]
    · rw [final7 m c]; funext i; pointwise [proj, normed]
    · rw [final8 m c]; funext i; pointwise [proj, normed]
    · rw [final9 m c]; funext i; pointwise [proj, normed]
    · rw [final10 m c]; funext i; pointwise [proj, normed]

end Cert.InProjIdeal.Proj
-- ==== Proof.Ssd.Pairs.lean ====
module

public import proofs.«01_k».proof.Proof.Gen.SsdIdeal.Skeleton
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.SsdIdeal.Mixer

open Cert.SsdIdeal Cert.SsdIdeal.Gen

/-! The attention-like part of one chunk. For every pair of heads the kernel adds, to the rows of
the chunk's accumulator, a sum over the source rows of the chunk: score times decay times value.
The top half of the rows only runs over the first 128 source rows (the others are masked), and each
128-lane column block holds two heads, chosen by a lane mask. Below, each of the sixteen stored
blocks is brought to the one form `duo`. -/

/-- The contribution of a chunk's own rows to row `l`, lane `j`, with the decay read at column `a`
of the row-wise and row `b` of the column-wise running sums. -/
def duo (v106 : FVec Ideal S256x128 .f32) (v146 : FVec Ideal S16x256 .f32) (v187 : FVec Ideal S256x256 .f32)
    (v179 : FVec Ideal S256x1024 .bf16) (a : Fin 128) (b : Fin 16) (l : Fin 256) (j : Fin 1024) : EReal :=
  ∑ s : Fin 256, v187 (ix2 l s) * Ideal.exp2 (if s.val ≤ l.val then v106 (ix2 l a) - v146 (ix2 b s) else ⊥) *
    v179 (ix2 s j)

/-- The comparison of two small row numbers, as a condition. -/
theorem sge_iff (l x : ℕ) (hl : l < 256) (hx : x < 256) :
    IntOp.cmpi .sge (BitVec.ofNat 32 l) (BitVec.ofNat 32 x) = 1#1 ↔ x ≤ l := by
  rw [WordCmp.cmpi_sge_ofNat (by omega) (by omega)]
  by_cases h : x ≤ l <;> simp [h]

/-- The lane mask, as a condition. -/
theorem slt_iff (h : ℕ) (hh : h < 128) :
    IntOp.cmpi .slt (BitVec.ofNat 32 h) 64#32 = 1#1 ↔ h < 64 := by
  rw [show (64#32 : BitVec 32) = BitVec.ofNat 32 64 from rfl, WordCmp.cmpi_slt_ofNat (by omega) (by omega)]
  by_cases h : h < 64 <;> simp [h]

/-- The two complementary lane masks select one of two sums. -/
theorem halves (h : Fin 128) {n : ℕ} (f g : Fin n → EReal) :
    (∑ x, Scalar.select (IntOp.cmpi .slt (BitVec.ofNat 32 h.val) 64#32) (f x) 0) +
      (∑ x, Scalar.select (IntOp.xori (IntOp.cmpi .slt (BitVec.ofNat 32 h.val) 64#32) 1#1) (g x) 0) =
    if h.val < 64 then ∑ x, f x else ∑ x, g x := by
  by_cases hh : h.val < 64
  · have e := (slt_iff h.val h.isLt).2 hh
    rw [e]
    simp [hh, Scalar.select, IntOp.xori]
  · have e : IntOp.cmpi .slt (BitVec.ofNat 32 h.val) 64#32 = 0#1 := by
      rw [show (64#32 : BitVec 32) = BitVec.ofNat 32 64 from rfl, WordCmp.cmpi_slt_ofNat (by omega) (by omega)]
      simp [hh]
    rw [e]
    simp [hh, Scalar.select, IntOp.xori]

/-- The masked exponent: outside the causal triangle it is `⊥`. -/
theorem masked (l x : ℕ) (hl : l < 256) (hx : x < 256) (p : EReal) :
    Scalar.select (IntOp.cmpi .sge (BitVec.ofNat 32 l) (BitVec.ofNat 32 x)) p
      (Named.named (F := Ideal) (φ := .f32) κ "mask" 4048155338#32) = if x ≤ l then p else ⊥ := by
  have e := sge_iff l x hl hx
  unfold Scalar.select
  by_cases h : x ≤ l
  · rw [if_pos h]; exact if_pos (e.2 h)
  · rw [if_neg h]; exact if_neg (fun q => h (e.1 q))

variable (v106 : FVec Ideal S256x128 .f32) (v146 : FVec Ideal S16x256 .f32)
  (v187 : FVec Ideal S256x256 .f32) (v179 : FVec Ideal S256x1024 .bf16)

/-- A top block: the source rows from 128 on are masked for every row below 128. -/
theorem top_of (a a' : Fin 128) (b b' : Fin 16) (l h : Fin 128) (j : Fin 1024) :
    (∑ x : Fin 128, Scalar.select (IntOp.cmpi .slt (BitVec.ofNat 32 h.val) 64#32)
        (v187 (ix2 ⟨l.val, by omega⟩ ⟨x.val, by omega⟩) *
          FloatOps.exp2 (Scalar.select (IntOp.cmpi .sge (BitVec.ofNat 32 l.val) (BitVec.ofNat 32 x.val))
            (v106 (ix2 ⟨l.val, by omega⟩ a) - v146 (ix2 b ⟨x.val, by omega⟩)) (Named.named κ "mask" 4048155338#32)) *
          v179 (ix2 ⟨x.val, by omega⟩ j)) 0) +
      (∑ x : Fin 128, Scalar.select (IntOp.xori (IntOp.cmpi .slt (BitVec.ofNat 32 h.val) 64#32) 1#1)
        (v187 (ix2 ⟨l.val, by omega⟩ ⟨x.val, by omega⟩) *
          FloatOps.exp2 (Scalar.select (IntOp.cmpi .sge (BitVec.ofNat 32 l.val) (BitVec.ofNat 32 x.val))
            (v106 (ix2 ⟨l.val, by omega⟩ a') - v146 (ix2 b' ⟨x.val, by omega⟩)) (Named.named κ "mask" 4048155338#32)) *
          v179 (ix2 ⟨x.val, by omega⟩ j)) 0) =
    if h.val < 64 then duo v106 v146 v187 v179 a b ⟨l.val, by omega⟩ j
      else duo v106 v146 v187 v179 a' b' ⟨l.val, by omega⟩ j := by
  have key : ∀ (a : Fin 128) (b : Fin 16), (∑ x : Fin 128, v187 (ix2 ⟨l.val, by omega⟩ ⟨x.val, by omega⟩) *
          FloatOps.exp2 (Scalar.select (IntOp.cmpi .sge (BitVec.ofNat 32 l.val) (BitVec.ofNat 32 x.val))
            (v106 (ix2 ⟨l.val, by omega⟩ a) - v146 (ix2 b ⟨x.val, by omega⟩)) (Named.named κ "mask" 4048155338#32)) *
          v179 (ix2 ⟨x.val, by omega⟩ j)) = duo v106 v146 v187 v179 a b ⟨l.val, by omega⟩ j := by
    intro a b
    unfold duo
    have split := Fin.sum_univ_add (a := 128) (b := 128) (fun s : Fin 256 =>
      v187 (ix2 ⟨l.val, by omega⟩ s) *
        Ideal.exp2 (if s.val ≤ l.val then v106 (ix2 ⟨l.val, by omega⟩ a) - v146 (ix2 b s) else ⊥) * v179 (ix2 s j))
    have zero : ∀ i : Fin 128, v187 (ix2 ⟨l.val, by omega⟩ (Fin.natAdd 128 i)) *
        Ideal.exp2 (if (Fin.natAdd 128 i).val ≤ l.val then
          v106 (ix2 ⟨l.val, by omega⟩ a) - v146 (ix2 b (Fin.natAdd 128 i)) else ⊥) *
        v179 (ix2 (Fin.natAdd 128 i) j) = 0 := by
      intro i
      rw [if_neg (by simp only [Fin.val_natAdd]; omega), Ideal.exp2_bot, mul_zero, zero_mul]
    refine Eq.trans ?_ (split.trans (congrArg₂ (· + ·) rfl (Finset.sum_eq_zero fun i _ => zero i))).symm
    refine Eq.trans ?_ (add_zero _).symm
    refine Finset.sum_congr rfl fun x _ => ?_
    rw [masked _ _ (by omega) (by omega)]
    rfl
  rw [halves, key, key]

/-- A bottom block: all source rows. -/
theorem bot_of (a a' : Fin 128) (b b' : Fin 16) (l h : Fin 128) (j : Fin 1024) :
    (∑ x : Fin 256, Scalar.select (IntOp.cmpi .slt (BitVec.ofNat 32 h.val) 64#32)
        (v187 (ix2 ⟨128 + l.val, by omega⟩ x) *
          FloatOps.exp2 (Scalar.select (IntOp.cmpi .sge (BitVec.ofNat 32 (128 + l.val)) (BitVec.ofNat 32 x.val))
            (v106 (ix2 ⟨128 + l.val, by omega⟩ a) - v146 (ix2 b x)) (Named.named κ "mask" 4048155338#32)) *
          v179 (ix2 x j)) 0) +
      (∑ x : Fin 256, Scalar.select (IntOp.xori (IntOp.cmpi .slt (BitVec.ofNat 32 h.val) 64#32) 1#1)
        (v187 (ix2 ⟨128 + l.val, by omega⟩ x) *
          FloatOps.exp2 (Scalar.select (IntOp.cmpi .sge (BitVec.ofNat 32 (128 + l.val)) (BitVec.ofNat 32 x.val))
            (v106 (ix2 ⟨128 + l.val, by omega⟩ a') - v146 (ix2 b' x)) (Named.named κ "mask" 4048155338#32)) *
          v179 (ix2 x j)) 0) =
    if h.val < 64 then duo v106 v146 v187 v179 a b ⟨128 + l.val, by omega⟩ j
      else duo v106 v146 v187 v179 a' b' ⟨128 + l.val, by omega⟩ j := by
  have key : ∀ (a : Fin 128) (b : Fin 16), (∑ x : Fin 256, v187 (ix2 ⟨128 + l.val, by omega⟩ x) *
          FloatOps.exp2 (Scalar.select (IntOp.cmpi .sge (BitVec.ofNat 32 (128 + l.val)) (BitVec.ofNat 32 x.val))
            (v106 (ix2 ⟨128 + l.val, by omega⟩ a) - v146 (ix2 b x)) (Named.named κ "mask" 4048155338#32)) *
          v179 (ix2 x j)) = duo v106 v146 v187 v179 a b ⟨128 + l.val, by omega⟩ j := by
    intro a b
    unfold duo
    refine Finset.sum_congr rfl fun x _ => ?_
    rw [masked _ _ (by omega) (by omega)]
    rfl
  rw [halves, key, key]

variable (v65 : FVec Ideal S256x1024 .f32) (v81 : FVec Ideal S256x128 .f32) (v173 : Vec Ideal S256x1024 .bf16)
  (v264 : Vec Ideal S128x128 .f32) (l h : Fin 128)

/-- Heads 0 and 1, first 128 rows. -/
theorem top0 : k0_pay39 (F := Ideal) (k0_pay38 k0_pay10 v106 v146 (k0_pay23 v65 v81 v173) k0_pay24 v187 k0_pay30 (k0_pay32 v65 v81 v173)) v264 (ix2 l h) = v264 (ix2 l h) +
    if h.val < 64 then duo v106 v146 v187 (k0_pay23 v65 v81 v173) 0 0 ⟨l.val, by omega⟩ ⟨0 + h.val, by omega⟩
      else duo v106 v146 v187 (k0_pay23 v65 v81 v173) 1 1 ⟨l.val, by omega⟩ ⟨0 + h.val, by omega⟩ := by
  rw [← top_of]
  pointwise [k0_pay32, k0_pay24, k0_pay23, k0_pay30, k0_pay10, k0_pay38, k0_pay35, k0_pay36, k0_pay33, k0_pay39]
  all_goals simp only [Nat.zero_add]

/-- Heads 0 and 1, last 128 rows. -/
theorem bot0 : k0_pay40 (F := Ideal) v187 (k0_pay34 k0_pay10 v106 v146 v187 k0_pay31 (k0_pay32 v65 v81 v173)) (k0_pay35 (k0_pay23 v65 v81 v173) k0_pay24) (k0_pay37 k0_pay10 v106 v146) v264 (ix2 l h) = v264 (ix2 l h) +
    if h.val < 64 then duo v106 v146 v187 (k0_pay23 v65 v81 v173) 0 0 ⟨128 + l.val, by omega⟩ ⟨0 + h.val, by omega⟩
      else duo v106 v146 v187 (k0_pay23 v65 v81 v173) 1 1 ⟨128 + l.val, by omega⟩ ⟨0 + h.val, by omega⟩ := by
  rw [← bot_of]
  pointwise [k0_pay10, k0_pay37, k0_pay36, k0_pay24, k0_pay35, k0_pay32, k0_pay23, k0_pay31, k0_pay34, k0_pay33, k0_pay40]

/-- Heads 2 and 3, first 128 rows. -/
theorem top1 : k0_pay48 (F := Ideal) k0_pay10 v106 v146 v179 k0_pay24 v187 (k0_pay44 k0_pay10 v106 v146 v179 k0_pay24 v187) v264 (ix2 l h) = v264 (ix2 l h) +
    if h.val < 64 then duo v106 v146 v187 v179 2 2 ⟨l.val, by omega⟩ ⟨128 + h.val, by omega⟩
      else duo v106 v146 v187 v179 3 3 ⟨l.val, by omega⟩ ⟨128 + h.val, by omega⟩ := by
  rw [← top_of]
  pointwise [k0_pay24, k0_pay10, k0_pay44, k0_pay43, k0_pay42, k0_pay48, k0_pay47, k0_pay46]

/-- Heads 2 and 3, last 128 rows. -/
theorem bot1 : k0_pay49 (F := Ideal) k0_pay10 v106 v146 v179 k0_pay24 v187 k0_pay41 (k0_pay42 v179 k0_pay24) (k0_pay45 k0_pay10 v106 v146 v187) v264 (ix2 l h) = v264 (ix2 l h) +
    if h.val < 64 then duo v106 v146 v187 v179 2 2 ⟨128 + l.val, by omega⟩ ⟨128 + h.val, by omega⟩
      else duo v106 v146 v187 v179 3 3 ⟨128 + l.val, by omega⟩ ⟨128 + h.val, by omega⟩ := by
  rw [← bot_of]
  pointwise [k0_pay10, k0_pay45, k0_pay43, k0_pay24, k0_pay42, k0_pay41, k0_pay49, k0_pay47, k0_pay46]

/-- Heads 4 and 5, first 128 rows. -/
theorem top2 : k0_pay58 (F := Ideal) v187 (k0_pay52 k0_pay10 v106 v146 v179 k0_pay24 v187) (k0_pay54 v179 k0_pay24) (k0_pay56 k0_pay10 v106 v146) v264 (ix2 l h) = v264 (ix2 l h) +
    if h.val < 64 then duo v106 v146 v187 v179 4 4 ⟨l.val, by omega⟩ ⟨256 + h.val, by omega⟩
      else duo v106 v146 v187 v179 5 5 ⟨l.val, by omega⟩ ⟨256 + h.val, by omega⟩ := by
  rw [← top_of]
  pointwise [k0_pay10, k0_pay56, k0_pay55, k0_pay24, k0_pay54, k0_pay52, k0_pay50, k0_pay51, k0_pay58]

/-- Heads 4 and 5, last 128 rows. -/
theorem bot2 : k0_pay59 (F := Ideal) v187 (k0_pay53 k0_pay10 v106 v146 v179 k0_pay24 v187) (k0_pay54 v179 k0_pay24) (k0_pay57 k0_pay10 v106 v146) v264 (ix2 l h) = v264 (ix2 l h) +
    if h.val < 64 then duo v106 v146 v187 v179 4 4 ⟨128 + l.val, by omega⟩ ⟨256 + h.val, by omega⟩
      else duo v106 v146 v187 v179 5 5 ⟨128 + l.val, by omega⟩ ⟨256 + h.val, by omega⟩ := by
  rw [← bot_of]
  pointwise [k0_pay10, k0_pay57, k0_pay55, k0_pay24, k0_pay54, k0_pay53, k0_pay50, k0_pay51, k0_pay59]

/-- Heads 6 and 7, first 128 rows. -/
theorem top3 : k0_pay70 (F := Ideal) k0_pay10 v106 v146 v179 k0_pay24 v187 k0_pay60 (k0_pay62 v179 k0_pay24) (k0_pay64 k0_pay10 v106 v146) (k0_pay66 v187) v264 (ix2 l h) = v264 (ix2 l h) +
    if h.val < 64 then duo v106 v146 v187 v179 6 6 ⟨l.val, by omega⟩ ⟨384 + h.val, by omega⟩
      else duo v106 v146 v187 v179 7 7 ⟨l.val, by omega⟩ ⟨384 + h.val, by omega⟩ := by
  rw [← top_of]
  pointwise [k0_pay66, k0_pay10, k0_pay64, k0_pay63, k0_pay24, k0_pay62, k0_pay60, k0_pay70, k0_pay68, k0_pay67]

/-- Heads 6 and 7, last 128 rows. -/
theorem bot3 : k0_pay71 (F := Ideal) (k0_pay69 k0_pay10 v106 v146 v179 k0_pay24 v187 k0_pay61 (k0_pay62 v179 k0_pay24) (k0_pay65 k0_pay10 v106 v146)) v264 (ix2 l h) = v264 (ix2 l h) +
    if h.val < 64 then duo v106 v146 v187 v179 6 6 ⟨128 + l.val, by omega⟩ ⟨384 + h.val, by omega⟩
      else duo v106 v146 v187 v179 7 7 ⟨128 + l.val, by omega⟩ ⟨384 + h.val, by omega⟩ := by
  rw [← bot_of]
  pointwise [k0_pay10, k0_pay65, k0_pay63, k0_pay24, k0_pay62, k0_pay61, k0_pay69, k0_pay68, k0_pay67, k0_pay71]

/-- Heads 8 and 9, first 128 rows. -/
theorem top4 : k0_pay87 (F := Ideal) (k0_pay86 k0_pay10 v106 v146 v179 k0_pay24 v187 k0_pay78 (k0_pay80 v179 k0_pay24)) v264 (ix2 l h) = v264 (ix2 l h) +
    if h.val < 64 then duo v106 v146 v187 v179 8 8 ⟨l.val, by omega⟩ ⟨512 + h.val, by omega⟩
      else duo v106 v146 v187 v179 9 9 ⟨l.val, by omega⟩ ⟨512 + h.val, by omega⟩ := by
  rw [← top_of]
  pointwise [k0_pay24, k0_pay80, k0_pay78, k0_pay10, k0_pay86, k0_pay81, k0_pay83, k0_pay84, k0_pay87]

/-- Heads 8 and 9, last 128 rows. -/
theorem bot4 : k0_pay88 (F := Ideal) v187 (k0_pay82 k0_pay10 v106 v146 v187 k0_pay79 (k0_pay80 v179 k0_pay24)) (k0_pay83 v179 k0_pay24) (k0_pay85 k0_pay10 v106 v146) v264 (ix2 l h) = v264 (ix2 l h) +
    if h.val < 64 then duo v106 v146 v187 v179 8 8 ⟨128 + l.val, by omega⟩ ⟨512 + h.val, by omega⟩
      else duo v106 v146 v187 v179 9 9 ⟨128 + l.val, by omega⟩ ⟨512 + h.val, by omega⟩ := by
  rw [← bot_of]
  pointwise [k0_pay10, k0_pay85, k0_pay84, k0_pay24, k0_pay83, k0_pay80, k0_pay79, k0_pay82, k0_pay81, k0_pay88]

/-- Heads 10 and 11, first 128 rows. -/
theorem top5 : k0_pay96 (F := Ideal) k0_pay10 v106 v146 v179 k0_pay24 v187 (k0_pay92 k0_pay10 v106 v146 v179 k0_pay24 v187) v264 (ix2 l h) = v264 (ix2 l h) +
    if h.val < 64 then duo v106 v146 v187 v179 10 10 ⟨l.val, by omega⟩ ⟨640 + h.val, by omega⟩
      else duo v106 v146 v187 v179 11 11 ⟨l.val, by omega⟩ ⟨640 + h.val, by omega⟩ := by
  rw [← top_of]
  pointwise [k0_pay24, k0_pay10, k0_pay92, k0_pay91, k0_pay90, k0_pay96, k0_pay94, k0_pay95]

/-- Heads 10 and 11, last 128 rows. -/
theorem bot5 : k0_pay97 (F := Ideal) k0_pay10 v106 v146 v179 k0_pay24 v187 k0_pay89 (k0_pay90 v179 k0_pay24) (k0_pay93 k0_pay10 v106 v146 v187) v264 (ix2 l h) = v264 (ix2 l h) +
    if h.val < 64 then duo v106 v146 v187 v179 10 10 ⟨128 + l.val, by omega⟩ ⟨640 + h.val, by omega⟩
      else duo v106 v146 v187 v179 11 11 ⟨128 + l.val, by omega⟩ ⟨640 + h.val, by omega⟩ := by
  rw [← bot_of]
  pointwise [k0_pay10, k0_pay93, k0_pay91, k0_pay24, k0_pay90, k0_pay89, k0_pay97, k0_pay94, k0_pay95]

/-- Heads 12 and 13, first 128 rows. -/
theorem top6 : k0_pay106 (F := Ideal) v187 (k0_pay100 k0_pay10 v106 v146 v179 k0_pay24 v187) (k0_pay102 v179 k0_pay24) (k0_pay104 k0_pay10 v106 v146) v264 (ix2 l h) = v264 (ix2 l h) +
    if h.val < 64 then duo v106 v146 v187 v179 12 12 ⟨l.val, by omega⟩ ⟨768 + h.val, by omega⟩
      else duo v106 v146 v187 v179 13 13 ⟨l.val, by omega⟩ ⟨768 + h.val, by omega⟩ := by
  rw [← top_of]
  pointwise [k0_pay10, k0_pay104, k0_pay103, k0_pay24, k0_pay102, k0_pay100, k0_pay98, k0_pay99, k0_pay106]

/-- Heads 12 and 13, last 128 rows. -/
theorem bot6 : k0_pay107 (F := Ideal) v187 (k0_pay101 k0_pay10 v106 v146 v179 k0_pay24 v187) (k0_pay102 v179 k0_pay24) (k0_pay105 k0_pay10 v106 v146) v264 (ix2 l h) = v264 (ix2 l h) +
    if h.val < 64 then duo v106 v146 v187 v179 12 12 ⟨128 + l.val, by omega⟩ ⟨768 + h.val, by omega⟩
      else duo v106 v146 v187 v179 13 13 ⟨128 + l.val, by omega⟩ ⟨768 + h.val, by omega⟩ := by
  rw [← bot_of]
  pointwise [k0_pay10, k0_pay105, k0_pay103, k0_pay24, k0_pay102, k0_pay101, k0_pay98, k0_pay99, k0_pay107]

/-- Heads 14 and 15, first 128 rows. -/
theorem top7 : k0_pay118 (F := Ideal) k0_pay10 v106 v146 v179 k0_pay24 v187 k0_pay108 (k0_pay110 v179 k0_pay24) (k0_pay112 k0_pay10 v106 v146) (k0_pay114 v187) v264 (ix2 l h) = v264 (ix2 l h) +
    if h.val < 64 then duo v106 v146 v187 v179 14 14 ⟨l.val, by omega⟩ ⟨896 + h.val, by omega⟩
      else duo v106 v146 v187 v179 15 15 ⟨l.val, by omega⟩ ⟨896 + h.val, by omega⟩ := by
  rw [← top_of]
  pointwise [k0_pay114, k0_pay10, k0_pay112, k0_pay111, k0_pay24, k0_pay110, k0_pay108, k0_pay118, k0_pay115, k0_pay116]

/-- Heads 14 and 15, last 128 rows. -/
theorem bot7 : k0_pay119 (F := Ideal) (k0_pay117 k0_pay10 v106 v146 v179 k0_pay24 v187 k0_pay109 (k0_pay110 v179 k0_pay24) (k0_pay113 k0_pay10 v106 v146)) v264 (ix2 l h) = v264 (ix2 l h) +
    if h.val < 64 then duo v106 v146 v187 v179 14 14 ⟨128 + l.val, by omega⟩ ⟨896 + h.val, by omega⟩
      else duo v106 v146 v187 v179 15 15 ⟨128 + l.val, by omega⟩ ⟨896 + h.val, by omega⟩ := by
  rw [← bot_of]
  pointwise [k0_pay10, k0_pay113, k0_pay111, k0_pay24, k0_pay110, k0_pay109, k0_pay117, k0_pay115, k0_pay116, k0_pay119]

end Cert.SsdIdeal.Mixer
-- ==== Proof.Ssd.Chunk.lean ====
module

public import proofs.«01_k».proof.Proof.Ssd.Pairs
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.SsdIdeal.Mixer

open Cert.SsdIdeal Cert.SsdIdeal.Gen

/-! The pieces of one chunk that do not come in pairs of heads: the convolution's rows, the running
sums of the decay, the widening of a per-head number to that head's 64 lanes, the carried state and
the normalised output. A number split into a rounded part and its remainder is the number itself here,
because over the reals the remainder of a finite number is zero. -/

/-- A finite sum of real numbers, read as an extended real. -/
theorem coe_sum {n : ℕ} (f : Fin n → ℝ) : ((∑ i, f i : ℝ) : EReal) = ∑ i, ((f i : ℝ) : EReal) := by
  induction (Finset.univ : Finset (Fin n)) using Finset.induction_on with
  | empty => simp
  | insert a s ha ih => rw [Finset.sum_insert ha, Finset.sum_insert ha, EReal.coe_add, ih]

/-- A real number less itself. -/
theorem coe_sub_self (r : ℝ) : (r : EReal) - (r : EReal) = 0 := by
  rw [← EReal.coe_sub, sub_self, EReal.coe_zero]

/-- The base-two logarithm of `e`, negated: the named constant of the kernel. -/
theorem named_log : Named.named (F := Ideal) κ "neg_log2e" (φ := .f32) 3216550459#32 = ((-((Real.log 2)⁻¹) : ℝ) : EReal) := by
  simp [Named.named, κ]

/-- A causal comparison selects like a condition on the row numbers. -/
theorem sel_sge (l x : Fin 256) (p q : EReal) :
    Scalar.select (IntOp.cmpi .sge (BitVec.ofNat 32 l.val) (BitVec.ofNat 32 x.val)) p q = if x.val ≤ l.val then p else q := by
  have e := sge_iff l.val x.val l.isLt x.isLt
  unfold Scalar.select
  by_cases h : x.val ≤ l.val
  · rw [if_pos h]; exact if_pos (e.2 h)
  · rw [if_neg h]; exact if_neg (fun q => h (e.1 q))

/-- The same comparison with the operands the other way round. -/
theorem sel_sle (l x : Fin 256) (p q : EReal) :
    Scalar.select (IntOp.cmpi .sle (BitVec.ofNat 32 x.val) (BitVec.ofNat 32 l.val)) p q = if x.val ≤ l.val then p else q := by
  have e := WordCmp.cmpi_sle_ofNat_eq_one_iff (w := 32) (a := x.val) (b := l.val) (by omega) (by omega)
  unfold Scalar.select
  by_cases h : x.val ≤ l.val
  · rw [if_pos h]; exact if_pos (e.2 h)
  · rw [if_neg h]; exact if_neg (fun q => h (e.1 q))

/-- A masked sum of real numbers and two masked sums of zeros. -/
theorem masked_sum (l : Fin 256) (a : Fin 256 → ℝ) :
    (∑ x : Fin 256, if x.val ≤ l.val then (a x : EReal) else 0) + (∑ x : Fin 256, if x.val ≤ l.val then (0 : EReal) else 0) +
      (∑ x : Fin 256, if x.val ≤ l.val then (0 : EReal) else 0) = ((∑ s : Fin 256, if s.val ≤ l.val then a s else 0 : ℝ) : EReal) := by
  rw [coe_sum]
  simp only [ite_self, Finset.sum_const_zero, add_zero]
  refine Finset.sum_congr rfl fun x _ => ?_
  split_ifs <;> simp

/-- The row-wise running sum: real wherever the summed numbers are. -/
theorem rows_cum (v69 : Vec Ideal S256x128 .f32) (v71 : FVec Ideal S1x128 .f32) (v82 : Vec Ideal S1x128 .f32)
    (l : Fin 256) (h : Fin 128) (a : Fin 256 → ℝ)
    (ha : ∀ s : Fin 256, k0_pay12 (F := Ideal) v69 v71 (ix2 s h) *
      (Named.named (F := Ideal) κ "neg_log2e" (φ := .f32) 3216550459#32 * Ideal.exp (v82 (ix2 0 h))) = (a s : EReal)) :
    k0_pay13 (F := Ideal) k0_pay10 v69 v71 v82 (ix2 l h) = ((∑ s : Fin 256, if s.val ≤ l.val then a s else 0 : ℝ) : EReal) := by
  pointwise [k0_pay13, k0_pay10]
  have i1 : ¬ (256 + h.val < 128) := by omega
  have i2 : ¬ (256 + h.val - 128 < 128) := by omega
  have i3 : ∀ p, (⟨256 + h.val - 128 - 128, p⟩ : Fin 128) = h := fun p => Fin.ext (by dsimp only; omega)
  simp only [dif_neg i1, dif_neg i2, i3, ha, coe_sub_self, sub_zero, sel_sge]
  exact masked_sum l a

/-- The step size before the decay: the kernel's softplus. -/
def soft (u : EReal) : EReal := max u 0 + Ideal.log1p (Ideal.exp (0 - FloatOps.absf (F := Ideal) (φ := .f32) u))

/-- The column-wise running sum is the same sum, transposed. -/
theorem cols_cum (v107 : Vec Ideal S1x16x256 .f32) (v109 : Vec Ideal S16x1 .f32) (v121 : Vec Ideal S16x1 .f32)
    (l : Fin 256) (h : Fin 16) (a : Fin 256 → ℝ)
    (ha : ∀ s : Fin 256, soft (v107 (ix3 0 h s) + v109 (ix2 h 0)) *
      (Named.named (F := Ideal) κ "neg_log2e" (φ := .f32) 3216550459#32 * Ideal.exp (v121 (ix2 h 0))) = (a s : EReal)) :
    k0_pay18 (F := Ideal) (iota .tc S256x256 32 [0] iota_S256x256_d0_w32) (iota .tc S256x256 32 [1] iota_S256x256_d1_w32)
      (k0_pay15 v107 v109) (k0_pay16 v107 v109) k0_pay17 v121 (ix2 h l) =
    ((∑ s : Fin 256, if s.val ≤ l.val then a s else 0 : ℝ) : EReal) := by
  pointwise [k0_pay18, k0_pay15, k0_pay16, k0_pay17, k0_pay14]
  have i1 : ¬ (32 + h.val < 16) := by omega
  have i2 : ¬ (32 + h.val - 16 < 16) := by omega
  have i3 : ∀ p, (⟨32 + h.val - 16 - 16, p⟩ : Fin 16) = h := fun p => Fin.ext (by dsimp only; omega)
  have ha' := ha
  unfold soft at ha'
  simp only [dif_neg i1, dif_neg i2, i3, ha', coe_sub_self, sub_zero, sel_sle]
  exact masked_sum l a

/-- A per-head row, split in two halves and multiplied by the widening matrix, is that head's number. -/
theorem widen (e : Fin 128 → EReal) (E : Vec Ideal S256x1024 .bf16)
    (hE : ∀ (q : Fin 256) (j : Fin 1024), E (ix2 q j) = if q.val % 128 = j.val / 64 then 1 else 0)
    (j : Fin 1024) (r : ℝ) (he : e ⟨j.val / 64, by omega⟩ = (r : EReal)) :
    (∑ x : Fin 128, e x * E (ix2 ⟨x.val, by omega⟩ j)) + (∑ x : Fin 128, (e x - e x) * E (ix2 ⟨128 + x.val, by omega⟩ j)) =
      (r : EReal) := by
  have one : ∀ (g : Fin 128 → EReal) (o : ℕ) (ho : o + 128 ≤ 256) (hm : o % 128 = 0),
      (∑ x : Fin 128, g x * E (ix2 ⟨o + x.val, by omega⟩ j)) = g ⟨j.val / 64, by omega⟩ := by
    intro g o ho hm
    rw [Finset.sum_eq_single (⟨j.val / 64, by omega⟩ : Fin 128)]
    · rw [hE, if_pos (by dsimp only; omega), mul_one]
    · intro b _ hb
      rw [hE, if_neg, mul_zero]
      intro q
      apply hb
      apply Fin.ext
      dsimp only at q ⊢
      omega
    · intro q; exact absurd (Finset.mem_univ _) q
  have first := one e 0 (by omega) (by omega)
  simp only [Nat.zero_add] at first
  rw [first, one (fun x => e x - e x) 128 (by omega) (by omega), he, coe_sub_self, add_zero]

variable (E : Vec Ideal S256x1024 .bf16)
  (hE : ∀ (q : Fin 256) (j : Fin 1024), E (ix2 q j) = if q.val % 128 = j.val / 64 then 1 else 0)

include hE in
/-- The decay from the chunk's start, widened to lanes. -/
theorem start_decay (v106 : FVec Ideal S256x128 .f32) (l : Fin 256) (j : Fin 1024) (r : ℝ)
    (hr : v106 (ix2 l ⟨j.val / 64, by omega⟩) = (r : EReal)) :
    k0_pay19 (F := Ideal) v106 E (ix2 l j) = ((Real.rpow 2 r : ℝ) : EReal) := by
  pointwise [k0_pay19]
  refine widen (fun x => Ideal.exp2 (v106 (ix2 l x))) E hE j _ ?_
  rw [hr, Ideal.exp2_coe]

include hE in
/-- A row of values times its widened step size. -/
theorem stepped (v65 : FVec Ideal S256x1024 .f32) (v81 : FVec Ideal S256x128 .f32) (l : Fin 256) (j : Fin 1024) (r : ℝ)
    (hr : v81 (ix2 l ⟨j.val / 64, by omega⟩) = (r : EReal)) :
    k0_pay21 (F := Ideal) v65 v81 E (ix2 l j) = v65 (ix2 l j) * (r : EReal) := by
  pointwise [k0_pay21]
  exact congrArg (v65 (ix2 l j) * ·) (widen (fun x => v81 (ix2 l x)) E hE j r hr)

include hE in
/-- The same, times the widened decay to the chunk's end. -/
theorem end_decay (v65 : FVec Ideal S256x1024 .f32) (v81 v106 : FVec Ideal S256x128 .f32) (l : Fin 256) (j : Fin 1024) (r u w : ℝ)
    (hr : v81 (ix2 l ⟨j.val / 64, by omega⟩) = (r : EReal)) (hu : v106 (ix2 255 ⟨j.val / 64, by omega⟩) = (u : EReal))
    (hw : v106 (ix2 l ⟨j.val / 64, by omega⟩) = (w : EReal)) :
    k0_pay22 (F := Ideal) v65 v81 (k0_pay20 v106) E E (ix2 l j) =
      v65 (ix2 l j) * (r : EReal) * ((Real.rpow 2 (u - w) : ℝ) : EReal) := by
  rw [← stepped E hE v65 v81 l j r hr]
  pointwise [k0_pay22, k0_pay20]
  refine congrArg (k0_pay21 v65 v81 E (ix2 l j) * ·) (widen (fun x => Ideal.exp2 (v106 (ix2 255 x) - v106 (ix2 l x))) E hE j _ ?_)
  rw [hu, hw, ← EReal.coe_sub, Ideal.exp2_coe]

/-- Two to a multiple of `1 / log 2` is the exponential. -/
theorem two_rpow (x : ℝ) : Real.rpow 2 ((Real.log 2)⁻¹ * x) = Real.exp x := by
  show (2 : ℝ) ^ ((Real.log 2)⁻¹ * x) = Real.exp x
  rw [Real.rpow_def_of_pos (by norm_num), ← mul_assoc, mul_inv_cancel₀ (Real.log_pos (by norm_num)).ne', one_mul]

end Cert.SsdIdeal.Mixer
-- ==== Proof.Ssd.Spec.lean ====
module

public import proofs.«01_k».proof.Proof.Ssd.Chunk
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.SsdIdeal.Mixer

open Cert.SsdIdeal Cert.SsdIdeal.Gen

/-! The mixer, written as mathematics over the extended reals: eight sequences of 4096 rows, cut into
chunks of 256 rows numbered through, 128 of them. Chunk `t` belongs to sequence `t / 16`. -/

/-- The mixer's arguments. -/
structure Args where
  z : Fin 32768 → Fin 1024 → EReal
  x : Fin 32768 → Fin 1536 → EReal
  d : Fin 32768 → Fin 16 → EReal
  cw : Fin 4 → Fin 1536 → EReal
  cb : Fin 1536 → EReal
  db : Fin 16 → EReal
  al : Fin 16 → EReal
  dk : Fin 16 → EReal
  ng : Fin 1024 → EReal

/-- Row `l` of chunk `t`. -/
def row (t : ℕ) (l : Fin 256) : Fin 32768 := ⟨(256 * t + l.val) % 32768, Nat.mod_lt _ (by omega)⟩

theorem row_val (t : ℕ) (l : Fin 256) (ht : t < 128) : (row t l).val = 256 * t + l.val :=
  Nat.mod_eq_of_lt (by omega)

/-- The head of a lane. -/
def head (j : Fin 1024) : Fin 16 := ⟨j.val / 64, by omega⟩

variable (A : Args)

/-- The input `3 - k` rows earlier, nothing before the sequence's first row. -/
def tap (r : Fin 32768) (k : ℕ) (q : Fin 1536) : EReal :=
  if h : 3 ≤ r.val % 4096 + k ∧ k ≤ 3 then A.x ⟨r.val + k - 3, by omega⟩ q else 0

/-- The causal convolution over four rows. -/
def conv (r : Fin 32768) (q : Fin 1536) : EReal :=
  A.cb q + A.cw 0 q * tap A r 0 q + A.cw 1 q * tap A r 1 q + A.cw 2 q * tap A r 2 q + A.cw 3 q * tap A r 3 q

/-- The activated convolution: values, then the two groups' keys, then their queries. -/
def act (r : Fin 32768) (q : Fin 1536) : EReal := conv A r q * Ideal.logistic (conv A r q)

def val (r : Fin 32768) (j : Fin 1024) : EReal := act A r ⟨j.val, by omega⟩
def key (r : Fin 32768) (g : Fin 2) (n : Fin 128) : EReal := act A r ⟨1024 + 128 * g.val + n.val, by omega⟩
def qry (r : Fin 32768) (g : Fin 2) (n : Fin 128) : EReal := act A r ⟨1280 + 128 * g.val + n.val, by omega⟩

/-- The group of a lane. -/
def grp (j : Fin 1024) : Fin 2 := ⟨j.val / 512, by omega⟩

/-- The step size. -/
def dts (r : Fin 32768) (h : Fin 16) : EReal := soft (A.d r h + A.db h)

/-- The running sum of the log-decays within a chunk. -/
def cum (t : ℕ) (l : Fin 256) (h : Fin 16) : EReal :=
  ∑ s : Fin 256, if s.val ≤ l.val then dts A (row t s) h * (-(Ideal.exp (A.al h))) else 0

/-- What chunk `t` adds to the state. -/
def inc (t : ℕ) (n : Fin 128) (j : Fin 1024) : EReal :=
  ∑ l : Fin 256, key A (row t l) (grp j) n *
    (val A (row t l) j * dts A (row t l) (head j) * Ideal.exp (cum A t 255 (head j) - cum A t l (head j)))

/-- The state before chunk `t`: zero at a sequence's start. -/
def prev : ℕ → Fin 128 → Fin 1024 → EReal
  | 0 => fun _ _ => 0
  | t + 1 => fun n j => if (t + 1) % 16 = 0 then 0 else prev t n j * Ideal.exp (cum A t 255 (head j)) + inc A t n j

/-- The chunk's own part. -/
def diag (t : ℕ) (l : Fin 256) (j : Fin 1024) : EReal :=
  ∑ s : Fin 256, (∑ n : Fin 128, qry A (row t l) (grp j) n * key A (row t s) (grp j) n) *
    (if s.val ≤ l.val then Ideal.exp (cum A t l (head j) - cum A t s (head j)) else 0) *
    (val A (row t s) j * dts A (row t s) (head j))

/-- The part of the earlier chunks, through the state. -/
def off (t : ℕ) (l : Fin 256) (j : Fin 1024) : EReal :=
  (∑ n : Fin 128, qry A (row t l) (grp j) n * prev A t n j) * Ideal.exp (cum A t l (head j))

def mix (t : ℕ) (l : Fin 256) (j : Fin 1024) : EReal :=
  diag A t l j + off A t l j + val A (row t l) j * A.dk (head j)

/-- Gated. -/
def gated (t : ℕ) (l : Fin 256) (j : Fin 1024) : EReal :=
  mix A t l j * (A.z (row t l) j * Ideal.logistic (A.z (row t l) j))

/-- And normalised within the group. -/
def normed (t : ℕ) (l : Fin 256) (j : Fin 1024) : EReal :=
  gated A t l j * Ideal.rsqrt (Ideal.div (∑ i : Fin 512, gated A t l ⟨512 * (grp j).val + i.val, by have := (grp j).isLt; omega⟩ *
    gated A t l ⟨512 * (grp j).val + i.val, by have := (grp j).isLt; omega⟩) (Ideal.ofBits .f32 1140850688#32) +
    Ideal.ofBits .f32 897988541#32) * A.ng j

/-! ### Real step sizes -/

/-- Step sizes and decay rates are real numbers. -/
structure Steps where
  δ : Fin 32768 → Fin 16 → ℝ
  ε : Fin 16 → ℝ
  hδ : ∀ r h, dts A r h = (δ r h : EReal)
  hε : ∀ h, Ideal.exp (A.al h) = (ε h : EReal)

variable (R : Steps A)

/-- The running sum as a real number. -/
def cumR (R : Steps A) (t : ℕ) (l : Fin 256) (h : Fin 16) : ℝ :=
  ∑ s : Fin 256, if s.val ≤ l.val then R.δ (row t s) h * (-(R.ε h)) else 0

theorem cum_real (t : ℕ) (l : Fin 256) (h : Fin 16) : cum A t l h = (cumR A R t l h : EReal) := by
  unfold cum cumR
  rw [coe_sum]
  refine Finset.sum_congr rfl fun s _ => ?_
  rw [R.hδ, R.hε]
  split_ifs
  · rw [EReal.coe_mul, EReal.coe_neg]
  · rw [EReal.coe_zero]

/-- The same sum in units of the base-two logarithm. -/
theorem cum_two (t : ℕ) (l : Fin 256) (h : Fin 16) :
    (∑ s : Fin 256, if s.val ≤ l.val then R.δ (row t s) h * (-((Real.log 2)⁻¹) * R.ε h) else 0) =
      (Real.log 2)⁻¹ * cumR A R t l h := by
  unfold cumR
  rw [Finset.mul_sum]
  refine Finset.sum_congr rfl fun s _ => ?_
  split_ifs <;> ring

/-- The summand of the kernel's running sums. -/
theorem step_two (r : Fin 32768) (h : Fin 16) :
    dts A r h * (Named.named (F := Ideal) κ "neg_log2e" (φ := .f32) 3216550459#32 * Ideal.exp (A.al h)) =
      ((R.δ r h * (-((Real.log 2)⁻¹) * R.ε h) : ℝ) : EReal) := by
  rw [named_log, R.hδ, R.hε, EReal.coe_mul, EReal.coe_mul]

/-- A difference of running sums, exponentiated in either base. -/
theorem exp_two (t : ℕ) (l s : Fin 256) (h : Fin 16) :
    ((Real.rpow 2 ((Real.log 2)⁻¹ * cumR A R t l h - (Real.log 2)⁻¹ * cumR A R t s h) : ℝ) : EReal) =
      Ideal.exp (cum A t l h - cum A t s h) := by
  rw [cum_real A R, cum_real A R, ← EReal.coe_sub, Ideal.exp_coe, ← mul_sub, two_rpow]

theorem exp_two' (t : ℕ) (l : Fin 256) (h : Fin 16) :
    ((Real.rpow 2 ((Real.log 2)⁻¹ * cumR A R t l h) : ℝ) : EReal) = Ideal.exp (cum A t l h) := by
  rw [cum_real A R, Ideal.exp_coe, two_rpow]

end Cert.SsdIdeal.Mixer
-- ==== Proof.Ssd.RefBase.lean ====
module

public import proofs.«01_k».proof.Defs
public import proofs.«01_k».proof.Proof.Ssd.Spec
public import proofs.«01_k».proof.Proof.Gen.SsdRefIdeal.Read
public import Idealize.ShloMosaic.Lib.Pipeline.ValueKit
public import Idealize.ShloMosaic.Lib.Pointwise
public import Idealize.ShloMosaic.Lib.Claim
public import Idealize.ShloMosaic.Lib.WindowSum

@[expose] public section

set_option maxRecDepth 16384

noncomputable section

open Idealize.ShloMosaic Idealize.ShloMosaic.TcCoe Idealize.SL.Sem

namespace Cert.SsdIdeal.Mixer

open Cert.SsdRefIdeal Cert.SsdRefIdeal.Read

variable (x0 : FVec Ideal S32768x1024 .bf16) (x1 : FVec Ideal S32768x1536 .bf16) (x2 : FVec Ideal S32768x128 .f32) (x3 : FVec Ideal S4x1536 .f32)
  (x4 : FVec Ideal S1536 .f32) (x5 x6 x7 : FVec Ideal S16 .f32) (x8 : FVec Ideal S1024 .f32)

/-- The mixer's arguments, as the arrays that hold them. -/
def ofArrays : Args where
  z := fun r j => x0 (ix2 r j)
  x := fun r q => x1 (ix2 r q)
  d := fun r h => x2 (ix2 r ⟨h.val, by omega⟩)
  cw := fun k q => x3 (ix2 k q)
  cb := fun q => x4 (ix1 q)
  db := fun h => x5 (ix1 h)
  al := fun h => x6 (ix1 h)
  dk := fun h => x7 (ix1 h)
  ng := fun j => x8 (ix1 j)

/-- Row `s` of sequence `b`. -/
def at_ (b : Fin 8) (s : Fin 4096) : Fin 32768 := ⟨b.val * 4096 + s.val, by omega⟩

/-- The padded input, four rows at a time. -/
theorem ref_pad (b : Fin 8) (s : Fin 4096) (q : Fin 1536) (k : ℕ) (hk : k < 4) :
    val_main_v3 (F := Ideal) x1 (ix3 b (⟨k + s.val, by omega⟩ : Fin 4099) q) = tap (ofArrays x0 x1 x2 x3 x4 x5 x6 x7 x8) (at_ b s) k q := by
  unfold tap
  pointwise [val_main_v3, val_main_v2, val_main_v1, val_main_v0, val_main_cst, at_, ofArrays]
  by_cases h : k + s.val < 3
  · rw [dif_pos h, dif_neg (by omega)]
  · rw [dif_neg h, dif_pos (by omega)]
    congr 2
    apply Fin.ext
    dsimp only
    omega

/-- The convolution. -/
theorem ref_conv (b : Fin 8) (s : Fin 4096) (q : Fin 1536) :
    val_main_v35 (F := Ideal) x1 x3 x4 (ix3 b s q) = conv (ofArrays x0 x1 x2 x3 x4 x5 x6 x7 x8) (at_ b s) q := by
  unfold conv
  rw [← ref_pad x0 x1 x2 x3 x4 x5 x6 x7 x8 b s q 0 (by omega), ← ref_pad x0 x1 x2 x3 x4 x5 x6 x7 x8 b s q 1 (by omega),
    ← ref_pad x0 x1 x2 x3 x4 x5 x6 x7 x8 b s q 2 (by omega), ← ref_pad x0 x1 x2 x3 x4 x5 x6 x7 x8 b s q 3 (by omega)]
  pointwise [val_main_v35, val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5, val_main_v4, val_main_cst_0, ofArrays]
  rw [mul_comm (x3 (ix2 0 q)), mul_comm (x3 (ix2 1 q)), mul_comm (x3 (ix2 2 q)), mul_comm (x3 (ix2 3 q))]
  abel

/-- The activated convolution. -/
theorem ref_act (b : Fin 8) (s : Fin 4096) (q : Fin 1536) :
    val_main_v36 (F := Ideal) x1 x3 x4 (ix3 b s q) = act (ofArrays x0 x1 x2 x3 x4 x5 x6 x7 x8) (at_ b s) q := by
  unfold act
  rw [← ref_conv]
  pointwise [val_main_v36, val_main_call0_v5, val_main_call0_v4, val_main_call0_v3, val_main_call0_v2, val_main_call0_v1, val_main_call0_v0,
    val_main_call0_cst, val_main_call0_cst_0, Ideal.logistic]

/-- The step size. -/
theorem ref_dts (b : Fin 8) (s : Fin 4096) (h : Fin 16) :
    val_main_v46 (F := Ideal) x2 x5 (ix3 b s h) = dts (ofArrays x0 x1 x2 x3 x4 x5 x6 x7 x8) (at_ b s) h := by
  unfold dts soft
  pointwise [val_main_v46, val_main_call1_v11, val_main_call1_v10, val_main_call1_v9, val_main_call1_v8, val_main_call1_v7, val_main_call1_v6,
    val_main_call1_v5, val_main_call1_v4, val_main_call1_v3, val_main_call1_v2, val_main_call1_v1, val_main_call1_v0, val_main_call1_cst,
    val_main_v45, val_main_v44, val_main_v43, val_main_v42, val_main_v41, at_, ofArrays]
  rw [if_neg (fun h => h rfl), zero_sub]

/-- Head `e` of group `g`. -/
def hd (g : Fin 2) (e : Fin 8) : Fin 16 := ⟨g.val * 8 + e.val, by omega⟩

/-- Lane `p` of that head. -/
def ln (g : Fin 2) (e : Fin 8) (p : Fin 64) : Fin 1024 := ⟨g.val * 512 + e.val * 64 + p.val, by omega⟩

theorem head_ln (g : Fin 2) (e : Fin 8) (p : Fin 64) : head (ln g e p) = hd g e :=
  Fin.ext (show (g.val * 512 + e.val * 64 + p.val) / 64 = g.val * 8 + e.val by omega)

theorem grp_ln (g : Fin 2) (e : Fin 8) (p : Fin 64) : grp (ln g e p) = g :=
  Fin.ext (show (g.val * 512 + e.val * 64 + p.val) / 512 = g.val by omega)

/-- Chunk `c` of sequence `b`. -/
def ck (b : Fin 8) (c : Fin 16) : ℕ := 16 * b.val + c.val

theorem row_ck (b : Fin 8) (c : Fin 16) (l : Fin 256) : (row (ck b c) l).val = b.val * 4096 + (c.val * 256 + l.val) := by
  have h := row_val (ck b c) l (show 16 * b.val + c.val < 128 by omega)
  have h2 : ck b c = 16 * b.val + c.val := rfl
  rw [h, h2]
  omega

theorem act_at (b : Fin 8) (s : Fin 4096) (q q' : Fin 1536) (r : Fin 32768) (hr : r.val = b.val * 4096 + s.val) (hq : q.val = q'.val) :
    val_main_v36 (F := Ideal) x1 x3 x4 (ix3 b s q) = act (ofArrays x0 x1 x2 x3 x4 x5 x6 x7 x8) r q' := by
  obtain rfl : q = q' := Fin.ext hq
  obtain rfl : r = at_ b s := Fin.ext hr
  exact ref_act x0 x1 x2 x3 x4 x5 x6 x7 x8 b s q

theorem dts_at (b : Fin 8) (s : Fin 4096) (h h' : Fin 16) (r : Fin 32768) (hr : r.val = b.val * 4096 + s.val) (hh : h.val = h'.val) :
    val_main_v46 (F := Ideal) x2 x5 (ix3 b s h) = dts (ofArrays x0 x1 x2 x3 x4 x5 x6 x7 x8) r h' := by
  obtain rfl : h = h' := Fin.ext hh
  obtain rfl : r = at_ b s := Fin.ext hr
  exact ref_dts x0 x1 x2 x3 x4 x5 x6 x7 x8 b s h

end Cert.SsdIdeal.Mixer
-- ==== Proof.Ssd.RefParts.lean ====
module

public import proofs.«01_k».proof.Defs
public import proofs.«01_k».proof.Proof.Ssd.RefBase
public import proofs.«01_k».proof.Proof.Gen.SsdRefIdeal.Read
public import Idealize.ShloMosaic.Lib.Pipeline.ValueKit
public import Idealize.ShloMosaic.Lib.Pointwise
public import Idealize.ShloMosaic.Lib.Claim
public import Idealize.ShloMosaic.Lib.WindowSum

@[expose] public section

set_option maxRecDepth 16384

noncomputable section

open Idealize.ShloMosaic Idealize.ShloMosaic.TcCoe Idealize.SL.Sem

namespace Cert.SsdIdeal.Mixer

open Cert.SsdRefIdeal Cert.SsdRefIdeal.Read

variable (x0 : FVec Ideal S32768x1024 .bf16) (x1 : FVec Ideal S32768x1536 .bf16) (x2 : FVec Ideal S32768x128 .f32) (x3 : FVec Ideal S4x1536 .f32)
  (x4 : FVec Ideal S1536 .f32) (x5 x6 x7 : FVec Ideal S16 .f32) (x8 : FVec Ideal S1024 .f32)

theorem mulf_eq (a b : EReal) : FloatOps.mulf (F := Ideal) (φ := .f32) a b = a * b := rfl
theorem addf_eq (a b : EReal) : FloatOps.addf (F := Ideal) (φ := .f32) a b = a + b := rfl
theorem subf_eq (a b : EReal) : FloatOps.subf (F := Ideal) (φ := .f32) a b = a - b := rfl
theorem exp_eq (a : EReal) : FloatOps.hostUnary (F := Ideal) (φ := .f32) .exp a = Ideal.exp a := rfl

/-- The values. -/
theorem ref_val (b : Fin 8) (s : Fin 4096) (g : Fin 2) (e : Fin 8) (p : Fin 64) (r : Fin 32768) (hr : r.val = b.val * 4096 + s.val) :
    val_main_v40 (F := Ideal) x1 x3 x4 (ix5 b s g e p) = val (ofArrays x0 x1 x2 x3 x4 x5 x6 x7 x8) r (ln g e p) := by
  have h : val_main_v40 (F := Ideal) x1 x3 x4 (ix5 b s g e p) = val_main_v37 (F := Ideal) x1 x3 x4 (ix3 b s (ln g e p)) := by
    pointwise [val_main_v40, ln]
  have h' : val_main_v37 (F := Ideal) x1 x3 x4 (ix3 b s (ln g e p)) = val_main_v36 (F := Ideal) x1 x3 x4 (ix3 b s (⟨(ln g e p).val, by omega⟩ : Fin 1536)) := by
    pointwise [val_main_v37, ln]
  rw [h, h']
  exact act_at x0 x1 x2 x3 x4 x5 x6 x7 x8 b s _ _ r hr rfl

/-- The step sizes, one per lane. -/
theorem ref_step (b : Fin 8) (s : Fin 4096) (g : Fin 2) (e : Fin 8) (p : Fin 64) (r : Fin 32768) (hr : r.val = b.val * 4096 + s.val) :
    val_main_v52 (F := Ideal) x2 x5 (ix5 b s g e p) = dts (ofArrays x0 x1 x2 x3 x4 x5 x6 x7 x8) r (hd g e) := by
  have h : val_main_v52 (F := Ideal) x2 x5 (ix5 b s g e p) = val_main_v46 (F := Ideal) x2 x5 (ix3 b s (hd g e)) := by
    pointwise [val_main_v52, val_main_v51, val_main_v47, hd]
  rw [h]
  exact dts_at x0 x1 x2 x3 x4 x5 x6 x7 x8 b s _ _ r hr rfl

/-- The values, scaled by their step sizes. -/
theorem ref_xdt (b : Fin 8) (c : Fin 16) (l : Fin 256) (g : Fin 2) (e : Fin 8) (p : Fin 64) :
    val_main_v54 (F := Ideal) x1 x2 x3 x4 x5 (ix6 b c l g e p) =
      val (ofArrays x0 x1 x2 x3 x4 x5 x6 x7 x8) (row (ck b c) l) (ln g e p) * dts (ofArrays x0 x1 x2 x3 x4 x5 x6 x7 x8) (row (ck b c) l) (hd g e) := by
  have h : val_main_v54 (F := Ideal) x1 x2 x3 x4 x5 (ix6 b c l g e p) =
      val_main_v53 (F := Ideal) x1 x2 x3 x4 x5 (ix5 b (⟨c.val * 256 + l.val, by omega⟩ : Fin 4096) g e p) := by
    pointwise [val_main_v54]
  rw [h, val_main_v53_apply, ref_val x0 x1 x2 x3 x4 x5 x6 x7 x8 b _ g e p _ (row_ck b c l), ref_step x0 x1 x2 x3 x4 x5 x6 x7 x8 b _ g e p _ (row_ck b c l)]
  exact mulf_eq _ _

/-- The keys. -/
theorem ref_key (b : Fin 8) (c : Fin 16) (l : Fin 256) (g : Fin 2) (n : Fin 128) :
    val_main_v55 (F := Ideal) x1 x3 x4 (ix5 b c l g n) = key (ofArrays x0 x1 x2 x3 x4 x5 x6 x7 x8) (row (ck b c) l) g n := by
  unfold key
  pointwise [val_main_v55, val_main_v38]
  refine act_at x0 x1 x2 x3 x4 x5 x6 x7 x8 _ _ _ _ _ ?_ ?_
  · rw [row_ck]
  · dsimp only; omega

/-- The queries. -/
theorem ref_qry (b : Fin 8) (c : Fin 16) (l : Fin 256) (g : Fin 2) (n : Fin 128) :
    val_main_v56 (F := Ideal) x1 x3 x4 (ix5 b c l g n) = qry (ofArrays x0 x1 x2 x3 x4 x5 x6 x7 x8) (row (ck b c) l) g n := by
  unfold qry
  pointwise [val_main_v56, val_main_v39]
  refine act_at x0 x1 x2 x3 x4 x5 x6 x7 x8 _ _ _ _ _ ?_ ?_
  · rw [row_ck]
  · dsimp only; omega

end Cert.SsdIdeal.Mixer
-- ==== Proof.Ssd.RefCum.lean ====
module

public import proofs.«01_k».proof.Defs
public import proofs.«01_k».proof.Proof.Ssd.RefBase
public import proofs.«01_k».proof.Proof.Gen.SsdRefIdeal.Read
public import Idealize.ShloMosaic.Lib.Pipeline.ValueKit
public import Idealize.ShloMosaic.Lib.Pointwise
public import Idealize.ShloMosaic.Lib.Claim
public import Idealize.ShloMosaic.Lib.WindowSum

@[expose] public section

set_option maxRecDepth 16384

noncomputable section

open Idealize.ShloMosaic Idealize.ShloMosaic.TcCoe Idealize.SL.Sem

namespace Cert.SsdIdeal.Mixer

open Cert.SsdRefIdeal Cert.SsdRefIdeal.Read

variable (x0 : FVec Ideal S32768x1024 .bf16) (x1 : FVec Ideal S32768x1536 .bf16) (x2 : FVec Ideal S32768x128 .f32) (x3 : FVec Ideal S4x1536 .f32)
  (x4 : FVec Ideal S1536 .f32) (x5 x6 x7 : FVec Ideal S16 .f32) (x8 : FVec Ideal S1024 .f32)

/-- The log-decay of one step. -/
theorem ref_decay (b : Fin 8) (g : Fin 2) (e : Fin 8) (c : Fin 16) (l : Fin 256) :
    val_main_v61 (F := Ideal) x2 x5 x6 (ix5 b g e c l) =
      dts (ofArrays x0 x1 x2 x3 x4 x5 x6 x7 x8) (row (ck b c) l) (hd g e) * (-(Ideal.exp ((ofArrays x0 x1 x2 x3 x4 x5 x6 x7 x8).al (hd g e)))) := by
  pointwise [val_main_v61, val_main_v60, val_main_v59, val_main_v58, val_main_v57, val_main_v50, val_main_v49, val_main_v48, val_main_v47]
  refine congrArg₂ (fun a b : EReal => a * b) (dts_at x0 x1 x2 x3 x4 x5 x6 x7 x8 _ _ _ _ _ ?_ ?_) ?_
  · rw [row_ck]
  · dsimp only [hd]
  · dsimp only [ofArrays, hd]

/-- Position `k` of the window of a running sum along the last of five axes. -/
theorem win_symm (n : Fin (⟨5, ![1, 1, 1, 1, 256]⟩ : Shape).numel) (h : n.val < 256) :
    (⟨5, ![1, 1, 1, 1, 256]⟩ : Shape).rowMajor.symm n = ix5 (0 : Fin 1) (0 : Fin 1) (0 : Fin 1) (0 : Fin 1) (⟨n.val, h⟩ : Fin 256) := by
  rw [Equiv.symm_apply_eq]
  apply Fin.ext
  rw [Shape.rowMajor_val_five]
  show n.val = _
  simp

theorem foldl_add_eq {ι : Type} (f : ι → EReal) (L : List ι) (a : EReal) :
    L.foldl (fun r n => r + f n) a = a + (L.map f).sum := by
  induction L generalizing a with
  | nil => simp
  | cons x L ih => rw [List.foldl_cons, ih, List.map_cons, List.sum_cons, add_assoc]

/-- A window that ends at position `l` sums what stands at or before `l`. -/
theorem sum_upto (f : Fin 256 → EReal) (l : Fin 256) :
    (∑ n : Fin 256, if h : 255 ≤ l.val + n.val then f ⟨l.val + n.val - 255, by omega⟩ else 0) =
      ∑ s : Fin 256, if s.val ≤ l.val then f s else 0 := by
  rw [← Finset.sum_filter]
  have h : (∑ n : Fin 256, if h : 255 ≤ l.val + n.val then f ⟨l.val + n.val - 255, by omega⟩ else 0) =
      ∑ n : Fin 256, if 255 ≤ l.val + n.val then f ⟨(l.val + n.val - 255) % 256, Nat.mod_lt _ (by omega)⟩ else 0 := by
    refine Finset.sum_congr rfl fun n _ => ?_
    split
    · congr 2; exact (Nat.mod_eq_of_lt (by omega)).symm
    · rfl
  rw [h, ← Finset.sum_filter]
  refine Finset.sum_bij' (fun n _ => ⟨(l.val + n.val - 255) % 256, Nat.mod_lt _ (by omega)⟩)
    (fun s _ => ⟨(s.val + 255 - l.val) % 256, Nat.mod_lt _ (by omega)⟩) ?_ ?_ ?_ ?_ ?_
  · intro n hn
    rw [Finset.mem_filter] at hn ⊢
    exact ⟨Finset.mem_univ _, show (l.val + n.val - 255) % 256 ≤ l.val by omega⟩
  · intro s hs
    rw [Finset.mem_filter] at hs ⊢
    exact ⟨Finset.mem_univ _, show 255 ≤ l.val + (s.val + 255 - l.val) % 256 by omega⟩
  · intro n hn
    rw [Finset.mem_filter] at hn
    exact Fin.ext (show ((l.val + n.val - 255) % 256 + 255 - l.val) % 256 = n.val by omega)
  · intro s hs
    rw [Finset.mem_filter] at hs
    exact Fin.ext (show (l.val + (s.val + 255 - l.val) % 256 - 255) % 256 = s.val by omega)
  · intro n hn; rfl

/-- A running sum along the last of five axes. -/
theorem run_sum (x : FVec Ideal S8x2x8x16x256 .f32) (v : FVec Ideal S_ .f32) (hv : ∀ i, v i = 0)
    (h : S8x2x8x16x256.ReduceWindows (![1, 1, 1, 1, 256] : Fin 5 → Nat) ![1, 1, 1, 1, 1] ![0, 0, 0, 0, 255] ![0, 0, 0, 0, 0] S8x2x8x16x256)
    (hu : 0 < S_.numel) (b : Fin 8) (g : Fin 2) (e : Fin 8) (c : Fin 16) (l : Fin 256) :
    Host.reduceWindowAdd ![1, 1, 1, 1, 256] ![1, 1, 1, 1, 1] ![0, 0, 0, 0, 255] ![0, 0, 0, 0, 0] x v h hu (ix5 b g e c l) =
      ∑ s : Fin 256, if s.val ≤ l.val then x (ix5 b g e c s) else 0 := by
  unfold Host.reduceWindowAdd
  rw [Ideal.hostReduceWindowAdd_def]
  unfold Ideal.hostReduceWindowAdd Host.reduceWindow
  dsimp only
  rw [hv, foldl_add_eq, zero_add, ← Fin.sum_univ_def]
  refine Eq.trans ?_ (sum_upto (fun s => x (ix5 b g e c s)) l)
  have hN : (⟨5, ![1, 1, 1, 1, 256]⟩ : Shape).numel = 256 := by decide
  refine Fintype.sum_equiv (finCongr hN) _ _ fun n => ?_
  have hn : n.val < 256 := lt_of_lt_of_eq n.isLt hN
  have hw : ((⟨5, ![1, 1, 1, 1, 256]⟩ : Shape).rowMajor.symm n) = _ := win_symm n hn
  show _ = if h : 255 ≤ l.val + n.val then x (ix5 b g e c ⟨l.val + n.val - 255, by omega⟩) else 0
  by_cases hl : 255 ≤ l.val + n.val
  · rw [dif_pos hl]
    refine Eq.trans (dif_pos fun a => ?_) (congrArg x (funext fun a => Fin.ext ?_))
    · rw [hw]
      match a with
      | ⟨0, _⟩ => exact ⟨Nat.zero_le _, show b.val * 1 + 0 - 0 < 8 by omega⟩
      | ⟨1, _⟩ => exact ⟨Nat.zero_le _, show g.val * 1 + 0 - 0 < 2 by omega⟩
      | ⟨2, _⟩ => exact ⟨Nat.zero_le _, show e.val * 1 + 0 - 0 < 8 by omega⟩
      | ⟨3, _⟩ => exact ⟨Nat.zero_le _, show c.val * 1 + 0 - 0 < 16 by omega⟩
      | ⟨4, _⟩ => exact ⟨show 255 ≤ l.val * 1 + n.val by omega, show l.val * 1 + n.val - 255 < 256 by omega⟩
    · dsimp only
      rw [hw]
      match a with
      | ⟨0, _⟩ => show b.val * 1 + 0 - 0 = b.val; omega
      | ⟨1, _⟩ => show g.val * 1 + 0 - 0 = g.val; omega
      | ⟨2, _⟩ => show e.val * 1 + 0 - 0 = e.val; omega
      | ⟨3, _⟩ => show c.val * 1 + 0 - 0 = c.val; omega
      | ⟨4, _⟩ => show l.val * 1 + n.val - 255 = l.val + n.val - 255; omega
  · rw [dif_neg hl]
    refine dif_neg fun ha => hl ?_
    have h4 := (ha 4).1
    rw [hw] at h4
    have h5 : 255 ≤ l.val * 1 + n.val := h4
    omega

/-- The running sum of the log-decays. -/
theorem ref_cum (b : Fin 8) (g : Fin 2) (e : Fin 8) (c : Fin 16) (l : Fin 256) :
    val_main_v62 (F := Ideal) x2 x5 x6 (ix5 b g e c l) = cum (ofArrays x0 x1 x2 x3 x4 x5 x6 x7 x8) (ck b c) l (hd g e) := by
  unfold cum val_main_v62
  refine (run_sum _ _ (fun i => ?_) _ _ b g e c l).trans (Finset.sum_congr rfl fun s _ => ?_)
  · unfold val_main_call2_call0_v0 val_main_call2_call0_cst
    exact Ideal.ofBits_zero_f32
  · rw [ref_decay x0 x1 x2 x3 x4 x5 x6 x7 x8]

end Cert.SsdIdeal.Mixer
-- ==== Proof.Ssd.RefDiag.lean ====
module

public import proofs.«01_k».proof.Defs
public import proofs.«01_k».proof.Proof.Ssd.RefParts
public import proofs.«01_k».proof.Proof.Ssd.RefCum
public import proofs.«01_k».proof.Proof.Gen.SsdRefIdeal.Read
public import Idealize.ShloMosaic.Lib.Pipeline.ValueKit
public import Idealize.ShloMosaic.Lib.Pointwise
public import Idealize.ShloMosaic.Lib.Claim
public import Idealize.ShloMosaic.Lib.WindowSum

@[expose] public section

set_option maxRecDepth 16384

noncomputable section

open Idealize.ShloMosaic Idealize.ShloMosaic.TcCoe Idealize.SL.Sem

namespace Cert.SsdIdeal.Mixer

open Cert.SsdRefIdeal Cert.SsdRefIdeal.Read

variable (x0 : FVec Ideal S32768x1024 .bf16) (x1 : FVec Ideal S32768x1536 .bf16) (x2 : FVec Ideal S32768x128 .f32) (x3 : FVec Ideal S4x1536 .f32)
  (x4 : FVec Ideal S1536 .f32) (x5 x6 x7 : FVec Ideal S16 .f32) (x8 : FVec Ideal S1024 .f32)

/-- The decay between two positions of a chunk. -/
theorem ref_gap (b : Fin 8) (g : Fin 2) (e : Fin 8) (c : Fin 16) (l s : Fin 256) :
    val_main_v71 (F := Ideal) x2 x5 x6 (ix6 b g e c l s) =
      if s.val ≤ l.val then Ideal.exp (cum (ofArrays x0 x1 x2 x3 x4 x5 x6 x7 x8) (ck b c) l (hd g e) - cum (ofArrays x0 x1 x2 x3 x4 x5 x6 x7 x8) (ck b c) s (hd g e)) else 0 := by
  have h67 : val_main_v67 (F := Ideal) x2 x5 x6 (ix6 b g e c l s) = val_main_v62 (F := Ideal) x2 x5 x6 (ix5 b g e c l) := by
    pointwise [val_main_v67, val_main_v65]
  have h68 : val_main_v68 (F := Ideal) x2 x5 x6 (ix6 b g e c l s) = val_main_v62 (F := Ideal) x2 x5 x6 (ix5 b g e c s) := by
    pointwise [val_main_v68, val_main_v66]
  have hm : val_main_call4_v1 (F := Ideal) (ix6 b g e c l s) = IntOp.cmpi .sge (BitVec.ofNat 32 l.val) (BitVec.ofNat 32 s.val) := by
    pointwise [val_main_call4_v1, val_main_v64, val_main_v63, val_main_c, val_main_call3_v5, val_main_call3_c_0, val_main_call3_v4,
      val_main_call3_v3, val_main_call3_v2, val_main_call3_v1, val_main_call3_c, val_main_call3_v0]
    rw [show IntOp.addi (BitVec.ofNat 32 l.val) 0#32 = BitVec.ofNat 32 l.val from BitVec.add_zero _]
    generalize IntOp.cmpi .sge (BitVec.ofNat 32 l.val) (BitVec.ofNat 32 s.val) = m
    revert m
    decide
  have hz : val_main_call4_v2 (F := Ideal) (ix6 b g e c l s) = (⊥ : EReal) := by
    pointwise [val_main_call4_v2, val_main_call4_v0, val_main_cst_1]
    show Ideal.ofBits .f32 0xFF800000#32 = ⊥
    simp [Ideal.ofBits, Ideal.ieee]
  rw [val_main_v71_apply, val_main_v70_apply, val_main_v69_apply, h67, h68, hm, hz, ref_cum x0 x1 x2 x3 x4 x5 x6 x7 x8, ref_cum x0 x1 x2 x3 x4 x5 x6 x7 x8, subf_eq, sel_sge, exp_eq]
  split_ifs
  · rfl
  · exact Ideal.exp_bot

/-- The products of a chunk's queries with its keys. -/
theorem ref_pairs (b : Fin 8) (g : Fin 2) (e : Fin 8) (c : Fin 16) (l s : Fin 256) :
    val_main_v74 (F := Ideal) x1 x3 x4 (ix6 b g e c l s) =
      ∑ n : Fin 128, qry (ofArrays x0 x1 x2 x3 x4 x5 x6 x7 x8) (row (ck b c) l) g n * key (ofArrays x0 x1 x2 x3 x4 x5 x6 x7 x8) (row (ck b c) s) g n := by
  have h : val_main_v74 (F := Ideal) x1 x3 x4 (ix6 b g e c l s) = val_main_v72 (F := Ideal) x1 x3 x4 (ix5 b g c l s) := by
    pointwise [val_main_v74, val_main_v73]
  rw [h, val_main_v72_apply]
  refine Finset.sum_congr rfl fun n _ => ?_
  have hl : lidx_main_v72 (ix5 b g c l s) n = ix5 b c l g n := by funext a; fin_cases a <;> rfl
  have hr : ridx_main_v72 (ix5 b g c l s) n = ix5 b c s g n := by funext a; fin_cases a <;> rfl
  rw [hl, hr, ref_qry x0 x1 x2 x3 x4 x5 x6 x7 x8, ref_key x0 x1 x2 x3 x4 x5 x6 x7 x8]

/-- The chunk's own part. -/
theorem ref_diag (b : Fin 8) (c : Fin 16) (l : Fin 256) (g : Fin 2) (e : Fin 8) (p : Fin 64) :
    val_main_v77 (F := Ideal) x1 x2 x3 x4 x5 x6 (ix6 b c l g e p) = diag (ofArrays x0 x1 x2 x3 x4 x5 x6 x7 x8) (ck b c) l (ln g e p) := by
  have h : val_main_v77 (F := Ideal) x1 x2 x3 x4 x5 x6 (ix6 b c l g e p) = val_main_v76 (F := Ideal) x1 x2 x3 x4 x5 x6 (ix6 b c g e p l) := by
    pointwise [val_main_v77]
  unfold diag
  rw [h, val_main_v76_apply, head_ln, grp_ln]
  refine Finset.sum_congr rfl fun s _ => ?_
  have hl : lidx_main_v76 (ix6 b c g e p l) s = ix6 b c s g e p := by funext a; fin_cases a <;> rfl
  have hr : ridx_main_v76 (ix6 b c g e p l) s = ix6 b g e c l s := by funext a; fin_cases a <;> rfl
  rw [hl, hr, ref_xdt x0 x1 x2 x3 x4 x5 x6 x7 x8, val_main_v75_apply, ref_pairs x0 x1 x2 x3 x4 x5 x6 x7 x8, ref_gap x0 x1 x2 x3 x4 x5 x6 x7 x8, mulf_eq]
  exact mul_comm _ _

end Cert.SsdIdeal.Mixer
-- ==== Proof.Ssd.RefInc.lean ====
module

public import proofs.«01_k».proof.Defs
public import proofs.«01_k».proof.Proof.Ssd.RefParts
public import proofs.«01_k».proof.Proof.Ssd.RefCum
public import proofs.«01_k».proof.Proof.Gen.SsdRefIdeal.Read
public import Idealize.ShloMosaic.Lib.Pipeline.ValueKit
public import Idealize.ShloMosaic.Lib.Pointwise
public import Idealize.ShloMosaic.Lib.Claim
public import Idealize.ShloMosaic.Lib.WindowSum

@[expose] public section

set_option maxRecDepth 16384

noncomputable section

open Idealize.ShloMosaic Idealize.ShloMosaic.TcCoe Idealize.SL.Sem

namespace Cert.SsdIdeal.Mixer

open Cert.SsdRefIdeal Cert.SsdRefIdeal.Read

variable (x0 : FVec Ideal S32768x1024 .bf16) (x1 : FVec Ideal S32768x1536 .bf16) (x2 : FVec Ideal S32768x128 .f32) (x3 : FVec Ideal S4x1536 .f32)
  (x4 : FVec Ideal S1536 .f32) (x5 x6 x7 : FVec Ideal S16 .f32) (x8 : FVec Ideal S1024 .f32)

/-- What a chunk adds to the state. -/
theorem ref_inc (b : Fin 8) (c : Fin 16) (g : Fin 2) (e : Fin 8) (p : Fin 64) (n : Fin 128) :
    val_main_v86 (F := Ideal) x1 x2 x3 x4 x5 x6 (ix6 b c g e p n) = inc (ofArrays x0 x1 x2 x3 x4 x5 x6 x7 x8) (ck b c) n (ln g e p) := by
  unfold inc
  rw [val_main_v86_apply, head_ln, grp_ln]
  refine Finset.sum_congr rfl fun l _ => ?_
  have hl : lidx_main_v86 (ix6 b c g e p n) l = ix6 b c l g e p := by funext a; fin_cases a <;> rfl
  have hr : ridx_main_v86 (ix6 b c g e p n) l = ix5 b c l g n := by funext a; fin_cases a <;> rfl
  have h84 : val_main_v84 (F := Ideal) x2 x5 x6 (ix6 b c l g e p) = val_main_v81 (F := Ideal) x2 x5 x6 (ix5 b g e c l) := by
    pointwise [val_main_v84, val_main_v83, val_main_v82]
  have h79 : val_main_v79 (F := Ideal) x2 x5 x6 (ix5 b g e c l) = val_main_v62 (F := Ideal) x2 x5 x6 (ix5 b g e c (255 : Fin 256)) := by
    pointwise [val_main_v79, val_main_v78]
  rw [hl, hr, ref_key x0 x1 x2 x3 x4 x5 x6 x7 x8, val_main_v85_apply, ref_xdt x0 x1 x2 x3 x4 x5 x6 x7 x8, h84, val_main_v81_apply, val_main_v80_apply, h79, ref_cum x0 x1 x2 x3 x4 x5 x6 x7 x8, ref_cum x0 x1 x2 x3 x4 x5 x6 x7 x8, subf_eq, exp_eq, mulf_eq]
  exact mul_comm _ _

/-- The decay of a whole chunk. -/
theorem ref_whole (b : Fin 8) (g : Fin 2) (e : Fin 8) (c : Fin 16) :
    val_main_v89 (F := Ideal) x2 x5 x6 (ix4 b g e c) = Ideal.exp (cum (ofArrays x0 x1 x2 x3 x4 x5 x6 x7 x8) (ck b c) 255 (hd g e)) := by
  have h88 : val_main_v88 (F := Ideal) x2 x5 x6 (ix4 b g e c) = val_main_v62 (F := Ideal) x2 x5 x6 (ix5 b g e c (255 : Fin 256)) := by
    pointwise [val_main_v88, val_main_v87]
  rw [val_main_v89_apply, h88, ref_cum x0 x1 x2 x3 x4 x5 x6 x7 x8, exp_eq]

/-- The same, chunk first. -/
theorem ref_inc' (k : Fin 16) (b : Fin 8) (g : Fin 2) (e : Fin 8) (p : Fin 64) (n : Fin 128) :
    val_main_v94 (F := Ideal) x1 x2 x3 x4 x5 x6 (ix6 k b g e p n) = inc (ofArrays x0 x1 x2 x3 x4 x5 x6 x7 x8) (ck b k) n (ln g e p) := by
  have h : val_main_v94 (F := Ideal) x1 x2 x3 x4 x5 x6 (ix6 k b g e p n) = val_main_v86 (F := Ideal) x1 x2 x3 x4 x5 x6 (ix6 b k g e p n) := by
    pointwise [val_main_v94, val_main_v91]
  rw [h, ref_inc x0 x1 x2 x3 x4 x5 x6 x7 x8]

theorem ref_whole' (k : Fin 16) (b : Fin 8) (g : Fin 2) (e : Fin 8) :
    val_main_v96 (F := Ideal) x2 x5 x6 (ix4 k b g e) = Ideal.exp (cum (ofArrays x0 x1 x2 x3 x4 x5 x6 x7 x8) (ck b k) 255 (hd g e)) := by
  have h : val_main_v96 (F := Ideal) x2 x5 x6 (ix4 k b g e) = val_main_v89 (F := Ideal) x2 x5 x6 (ix4 b g e k) := by
    pointwise [val_main_v96, val_main_v92]
  rw [h, ref_whole x0 x1 x2 x3 x4 x5 x6 x7 x8]

end Cert.SsdIdeal.Mixer
-- ==== Proof.Ssd.RefScan.lean ====
module

public import proofs.«01_k».proof.Defs
public import proofs.«01_k».proof.Proof.Ssd.RefInc
public import proofs.«01_k».proof.Proof.Gen.SsdRefIdeal.Read
public import Idealize.ShloMosaic.Lib.Pipeline.ValueKit
public import Idealize.ShloMosaic.Lib.Pointwise
public import Idealize.ShloMosaic.Lib.Claim
public import Idealize.ShloMosaic.Lib.WindowSum

@[expose] public section

set_option maxRecDepth 16384

noncomputable section

open Idealize.ShloMosaic Idealize.ShloMosaic.TcCoe Idealize.SL.Sem

namespace Cert.SsdIdeal.Mixer

open Cert.SsdRefIdeal Cert.SsdRefIdeal.Read

variable (x0 : FVec Ideal S32768x1024 .bf16) (x1 : FVec Ideal S32768x1536 .bf16) (x2 : FVec Ideal S32768x128 .f32) (x3 : FVec Ideal S4x1536 .f32)
  (x4 : FVec Ideal S1536 .f32) (x5 x6 x7 : FVec Ideal S16 .f32) (x8 : FVec Ideal S1024 .f32)

/-- One step of the recurrence over chunks, with the states of the chunks as one array and their decays as another. -/
theorem scan_step (k : ℕ) (hk : k < 16) (S : FVec Ideal S8x2x8x64x128 .f32) (U : FVec Ideal S16x8x2x8x64x128 .f32) (D : FVec Ideal S16x8x2x8 .f32)
    (hU : S16x8x2x8x64x128.Slices (![k, 0, 0, 0, 0, 0] : Fin 6 → ℕ) S1x8x2x8x64x128) (hD : S16x8x2x8.Slices (![k, 0, 0, 0] : Fin 4 → ℕ) S1x8x2x8)
    (h1 : S8x2x8x1x1.BroadcastsInDim S8x2x8x64x128 (![0, 1, 2, 3, 4] : Fin 5 → Fin S8x2x8x64x128.rank))
    (h2 : S8x2x8.BroadcastsInDim S8x2x8x1x1 (![0, 1, 2] : Fin 3 → Fin S8x2x8x1x1.rank)) (h3 : S1x8x2x8.ShapeCasts S8x2x8)
    (h4 : S1x8x2x8x64x128.ShapeCasts S8x2x8x64x128) (b : Fin 8) (g : Fin 2) (e : Fin 8) (p : Fin 64) (n : Fin 128) :
    addf (F := Ideal) (mulf (F := Ideal) S (broadcastInDim S8x2x8x64x128 ![0, 1, 2, 3, 4] h1
        (broadcastInDim S8x2x8x1x1 ![0, 1, 2] h2 (shapeCast _ (extractStridedSlice S1x8x2x8 ![k, 0, 0, 0] D hD) h3))))
      (shapeCast _ (extractStridedSlice S1x8x2x8x64x128 ![k, 0, 0, 0, 0, 0] U hU) h4) (ix5 b g e p n) =
      S (ix5 b g e p n) * D (ix4 ⟨k, hk⟩ b g e) + U (ix6 ⟨k, hk⟩ b g e p n) := by
  pointwise

/-- A state, as a row of the array of states. -/
theorem as_row (S : FVec Ideal S8x2x8x64x128 .f32) (h : S8x2x8x64x128.BroadcastsInDim S1x8x2x8x64x128 (![1, 2, 3, 4, 5] : Fin 5 → Fin S1x8x2x8x64x128.rank))
    (b : Fin 8) (g : Fin 2) (e : Fin 8) (p : Fin 64) (n : Fin 128) :
    broadcastInDim S1x8x2x8x64x128 ![1, 2, 3, 4, 5] h S (ix6 (0 : Fin 1) b g e p n) = S (ix5 b g e p n) := by
  pointwise

/-- A sequence starts from the zero state. -/
theorem prev_zero (A : Args) (t : ℕ) (ht : t % 16 = 0) (n : Fin 128) (j : Fin 1024) : prev A t n j = 0 := by
  cases t with
  | zero => rfl
  | succ t => exact if_pos ht

theorem prev_succ (A : Args) (t : ℕ) (ht : ¬ (t + 1) % 16 = 0) (n : Fin 128) (j : Fin 1024) :
    prev A (t + 1) n j = prev A t n j * Ideal.exp (cum A t 255 (head j)) + inc A t n j := if_neg ht

/-- The state before the next chunk of a sequence. -/
theorem prev_next (k : ℕ) (hk : k + 1 < 16) (S : FVec Ideal S8x2x8x64x128 .f32)
    (hU : S16x8x2x8x64x128.Slices (![k, 0, 0, 0, 0, 0] : Fin 6 → ℕ) S1x8x2x8x64x128) (hD : S16x8x2x8.Slices (![k, 0, 0, 0] : Fin 4 → ℕ) S1x8x2x8)
    (h1 : S8x2x8x1x1.BroadcastsInDim S8x2x8x64x128 (![0, 1, 2, 3, 4] : Fin 5 → Fin S8x2x8x64x128.rank))
    (h2 : S8x2x8.BroadcastsInDim S8x2x8x1x1 (![0, 1, 2] : Fin 3 → Fin S8x2x8x1x1.rank)) (h3 : S1x8x2x8.ShapeCasts S8x2x8)
    (h4 : S1x8x2x8x64x128.ShapeCasts S8x2x8x64x128) (b : Fin 8) (g : Fin 2) (e : Fin 8) (p : Fin 64) (n : Fin 128)
    (hS : S (ix5 b g e p n) = prev (ofArrays x0 x1 x2 x3 x4 x5 x6 x7 x8) (ck b ⟨k, by omega⟩) n (ln g e p)) :
    addf (F := Ideal) (mulf (F := Ideal) S (broadcastInDim S8x2x8x64x128 ![0, 1, 2, 3, 4] h1
        (broadcastInDim S8x2x8x1x1 ![0, 1, 2] h2 (shapeCast _ (extractStridedSlice S1x8x2x8 ![k, 0, 0, 0] (val_main_v96 (F := Ideal) x2 x5 x6) hD) h3))))
      (shapeCast _ (extractStridedSlice S1x8x2x8x64x128 ![k, 0, 0, 0, 0, 0] (val_main_v94 (F := Ideal) x1 x2 x3 x4 x5 x6 ) hU) h4) (ix5 b g e p n) =
      prev (ofArrays x0 x1 x2 x3 x4 x5 x6 x7 x8) (ck b ⟨k + 1, hk⟩) n (ln g e p) := by
  rw [scan_step k (by omega), hS, ref_whole' x0 x1 x2 x3 x4 x5 x6 x7 x8, ref_inc' x0 x1 x2 x3 x4 x5 x6 x7 x8]
  have hc : ck b ⟨k + 1, hk⟩ = ck b ⟨k, by omega⟩ + 1 := rfl
  have hn : ¬ (ck b ⟨k, by omega⟩ + 1) % 16 = 0 := by
    have : ck b ⟨k, by omega⟩ = 16 * b.val + k := rfl
    omega
  rw [hc, prev_succ _ _ hn, head_ln]

/-- The states before the sixteen chunks. -/
def states : Fin 16 → FVec Ideal S1x8x2x8x64x128 .f32 :=
  ![val_main_v226 (F := Ideal),
    val_main_v227 (F := Ideal) x1 x2 x3 x4 x5 x6,
    val_main_v228 (F := Ideal) x1 x2 x3 x4 x5 x6,
    val_main_v229 (F := Ideal) x1 x2 x3 x4 x5 x6,
    val_main_v230 (F := Ideal) x1 x2 x3 x4 x5 x6,
    val_main_v231 (F := Ideal) x1 x2 x3 x4 x5 x6,
    val_main_v232 (F := Ideal) x1 x2 x3 x4 x5 x6,
    val_main_v233 (F := Ideal) x1 x2 x3 x4 x5 x6,
    val_main_v234 (F := Ideal) x1 x2 x3 x4 x5 x6,
    val_main_v235 (F := Ideal) x1 x2 x3 x4 x5 x6,
    val_main_v236 (F := Ideal) x1 x2 x3 x4 x5 x6,
    val_main_v237 (F := Ideal) x1 x2 x3 x4 x5 x6,
    val_main_v238 (F := Ideal) x1 x2 x3 x4 x5 x6,
    val_main_v239 (F := Ideal) x1 x2 x3 x4 x5 x6,
    val_main_v240 (F := Ideal) x1 x2 x3 x4 x5 x6,
    val_main_v241 (F := Ideal) x1 x2 x3 x4 x5 x6]

theorem ref_states (k : Fin 16) (b : Fin 8) (g : Fin 2) (e : Fin 8) (p : Fin 64) (n : Fin 128) :
    states x1 x2 x3 x4 x5 x6 k (ix6 (0 : Fin 1) b g e p n) = prev (ofArrays x0 x1 x2 x3 x4 x5 x6 x7 x8) (ck b k) n (ln g e p) := by
  have h0 : val_main_v90 (F := Ideal) (ix5 b g e p n) = prev (ofArrays x0 x1 x2 x3 x4 x5 x6 x7 x8) (ck b 0) n (ln g e p) := by
    rw [prev_zero _ (ck b 0) (show (16 * b.val + 0) % 16 = 0 by omega)]
    pointwise [val_main_v90, val_main_cst_2]
  have h1 : val_main_v105 (F := Ideal) x1 x2 x3 x4 x5 x6 (ix5 b g e p n) = _ :=
    prev_next x0 x1 x2 x3 x4 x5 x6 x7 x8 0 (by omega) (val_main_v90 (F := Ideal)) _ _ _ _ _ _ b g e p n h0
  have h2 : val_main_v113 (F := Ideal) x1 x2 x3 x4 x5 x6 (ix5 b g e p n) = _ :=
    prev_next x0 x1 x2 x3 x4 x5 x6 x7 x8 1 (by omega) (val_main_v105 (F := Ideal) x1 x2 x3 x4 x5 x6) _ _ _ _ _ _ b g e p n h1
  have h3 : val_main_v121 (F := Ideal) x1 x2 x3 x4 x5 x6 (ix5 b g e p n) = _ :=
    prev_next x0 x1 x2 x3 x4 x5 x6 x7 x8 2 (by omega) (val_main_v113 (F := Ideal) x1 x2 x3 x4 x5 x6) _ _ _ _ _ _ b g e p n h2
  have h4 : val_main_v129 (F := Ideal) x1 x2 x3 x4 x5 x6 (ix5 b g e p n) = _ :=
    prev_next x0 x1 x2 x3 x4 x5 x6 x7 x8 3 (by omega) (val_main_v121 (F := Ideal) x1 x2 x3 x4 x5 x6) _ _ _ _ _ _ b g e p n h3
  have h5 : val_main_v137 (F := Ideal) x1 x2 x3 x4 x5 x6 (ix5 b g e p n) = _ :=
    prev_next x0 x1 x2 x3 x4 x5 x6 x7 x8 4 (by omega) (val_main_v129 (F := Ideal) x1 x2 x3 x4 x5 x6) _ _ _ _ _ _ b g e p n h4
  have h6 : val_main_v145 (F := Ideal) x1 x2 x3 x4 x5 x6 (ix5 b g e p n) = _ :=
    prev_next x0 x1 x2 x3 x4 x5 x6 x7 x8 5 (by omega) (val_main_v137 (F := Ideal) x1 x2 x3 x4 x5 x6) _ _ _ _ _ _ b g e p n h5
  have h7 : val_main_v153 (F := Ideal) x1 x2 x3 x4 x5 x6 (ix5 b g e p n) = _ :=
    prev_next x0 x1 x2 x3 x4 x5 x6 x7 x8 6 (by omega) (val_main_v145 (F := Ideal) x1 x2 x3 x4 x5 x6) _ _ _ _ _ _ b g e p n h6
  have h8 : val_main_v161 (F := Ideal) x1 x2 x3 x4 x5 x6 (ix5 b g e p n) = _ :=
    prev_next x0 x1 x2 x3 x4 x5 x6 x7 x8 7 (by omega) (val_main_v153 (F := Ideal) x1 x2 x3 x4 x5 x6) _ _ _ _ _ _ b g e p n h7
  have h9 : val_main_v169 (F := Ideal) x1 x2 x3 x4 x5 x6 (ix5 b g e p n) = _ :=
    prev_next x0 x1 x2 x3 x4 x5 x6 x7 x8 8 (by omega) (val_main_v161 (F := Ideal) x1 x2 x3 x4 x5 x6) _ _ _ _ _ _ b g e p n h8
  have h10 : val_main_v177 (F := Ideal) x1 x2 x3 x4 x5 x6 (ix5 b g e p n) = _ :=
    prev_next x0 x1 x2 x3 x4 x5 x6 x7 x8 9 (by omega) (val_main_v169 (F := Ideal) x1 x2 x3 x4 x5 x6) _ _ _ _ _ _ b g e p n h9
  have h11 : val_main_v185 (F := Ideal) x1 x2 x3 x4 x5 x6 (ix5 b g e p n) = _ :=
    prev_next x0 x1 x2 x3 x4 x5 x6 x7 x8 10 (by omega) (val_main_v177 (F := Ideal) x1 x2 x3 x4 x5 x6) _ _ _ _ _ _ b g e p n h10
  have h12 : val_main_v193 (F := Ideal) x1 x2 x3 x4 x5 x6 (ix5 b g e p n) = _ :=
    prev_next x0 x1 x2 x3 x4 x5 x6 x7 x8 11 (by omega) (val_main_v185 (F := Ideal) x1 x2 x3 x4 x5 x6) _ _ _ _ _ _ b g e p n h11
  have h13 : val_main_v201 (F := Ideal) x1 x2 x3 x4 x5 x6 (ix5 b g e p n) = _ :=
    prev_next x0 x1 x2 x3 x4 x5 x6 x7 x8 12 (by omega) (val_main_v193 (F := Ideal) x1 x2 x3 x4 x5 x6) _ _ _ _ _ _ b g e p n h12
  have h14 : val_main_v209 (F := Ideal) x1 x2 x3 x4 x5 x6 (ix5 b g e p n) = _ :=
    prev_next x0 x1 x2 x3 x4 x5 x6 x7 x8 13 (by omega) (val_main_v201 (F := Ideal) x1 x2 x3 x4 x5 x6) _ _ _ _ _ _ b g e p n h13
  have h15 : val_main_v217 (F := Ideal) x1 x2 x3 x4 x5 x6 (ix5 b g e p n) = _ :=
    prev_next x0 x1 x2 x3 x4 x5 x6 x7 x8 14 (by omega) (val_main_v209 (F := Ideal) x1 x2 x3 x4 x5 x6) _ _ _ _ _ _ b g e p n h14
  fin_cases k
  · have hr : val_main_v226 (F := Ideal) (ix6 (0 : Fin 1) b g e p n) = val_main_v90 (F := Ideal) (ix5 b g e p n) := by
      unfold val_main_v226
      exact as_row _ _ b g e p n
    exact hr.trans h0
  · have hr : val_main_v227 (F := Ideal) x1 x2 x3 x4 x5 x6 (ix6 (0 : Fin 1) b g e p n) = val_main_v105 (F := Ideal) x1 x2 x3 x4 x5 x6 (ix5 b g e p n) := by
      unfold val_main_v227
      exact as_row _ _ b g e p n
    exact hr.trans h1
  · have hr : val_main_v228 (F := Ideal) x1 x2 x3 x4 x5 x6 (ix6 (0 : Fin 1) b g e p n) = val_main_v113 (F := Ideal) x1 x2 x3 x4 x5 x6 (ix5 b g e p n) := by
      unfold val_main_v228
      exact as_row _ _ b g e p n
    exact hr.trans h2
  · have hr : val_main_v229 (F := Ideal) x1 x2 x3 x4 x5 x6 (ix6 (0 : Fin 1) b g e p n) = val_main_v121 (F := Ideal) x1 x2 x3 x4 x5 x6 (ix5 b g e p n) := by
      unfold val_main_v229
      exact as_row _ _ b g e p n
    exact hr.trans h3
  · have hr : val_main_v230 (F := Ideal) x1 x2 x3 x4 x5 x6 (ix6 (0 : Fin 1) b g e p n) = val_main_v129 (F := Ideal) x1 x2 x3 x4 x5 x6 (ix5 b g e p n) := by
      unfold val_main_v230
      exact as_row _ _ b g e p n
    exact hr.trans h4
  · have hr : val_main_v231 (F := Ideal) x1 x2 x3 x4 x5 x6 (ix6 (0 : Fin 1) b g e p n) = val_main_v137 (F := Ideal) x1 x2 x3 x4 x5 x6 (ix5 b g e p n) := by
      unfold val_main_v231
      exact as_row _ _ b g e p n
    exact hr.trans h5
  · have hr : val_main_v232 (F := Ideal) x1 x2 x3 x4 x5 x6 (ix6 (0 : Fin 1) b g e p n) = val_main_v145 (F := Ideal) x1 x2 x3 x4 x5 x6 (ix5 b g e p n) := by
      unfold val_main_v232
      exact as_row _ _ b g e p n
    exact hr.trans h6
  · have hr : val_main_v233 (F := Ideal) x1 x2 x3 x4 x5 x6 (ix6 (0 : Fin 1) b g e p n) = val_main_v153 (F := Ideal) x1 x2 x3 x4 x5 x6 (ix5 b g e p n) := by
      unfold val_main_v233
      exact as_row _ _ b g e p n
    exact hr.trans h7
  · have hr : val_main_v234 (F := Ideal) x1 x2 x3 x4 x5 x6 (ix6 (0 : Fin 1) b g e p n) = val_main_v161 (F := Ideal) x1 x2 x3 x4 x5 x6 (ix5 b g e p n) := by
      unfold val_main_v234
      exact as_row _ _ b g e p n
    exact hr.trans h8
  · have hr : val_main_v235 (F := Ideal) x1 x2 x3 x4 x5 x6 (ix6 (0 : Fin 1) b g e p n) = val_main_v169 (F := Ideal) x1 x2 x3 x4 x5 x6 (ix5 b g e p n) := by
      unfold val_main_v235
      exact as_row _ _ b g e p n
    exact hr.trans h9
  · have hr : val_main_v236 (F := Ideal) x1 x2 x3 x4 x5 x6 (ix6 (0 : Fin 1) b g e p n) = val_main_v177 (F := Ideal) x1 x2 x3 x4 x5 x6 (ix5 b g e p n) := by
      unfold val_main_v236
      exact as_row _ _ b g e p n
    exact hr.trans h10
  · have hr : val_main_v237 (F := Ideal) x1 x2 x3 x4 x5 x6 (ix6 (0 : Fin 1) b g e p n) = val_main_v185 (F := Ideal) x1 x2 x3 x4 x5 x6 (ix5 b g e p n) := by
      unfold val_main_v237
      exact as_row _ _ b g e p n
    exact hr.trans h11
  · have hr : val_main_v238 (F := Ideal) x1 x2 x3 x4 x5 x6 (ix6 (0 : Fin 1) b g e p n) = val_main_v193 (F := Ideal) x1 x2 x3 x4 x5 x6 (ix5 b g e p n) := by
      unfold val_main_v238
      exact as_row _ _ b g e p n
    exact hr.trans h12
  · have hr : val_main_v239 (F := Ideal) x1 x2 x3 x4 x5 x6 (ix6 (0 : Fin 1) b g e p n) = val_main_v201 (F := Ideal) x1 x2 x3 x4 x5 x6 (ix5 b g e p n) := by
      unfold val_main_v239
      exact as_row _ _ b g e p n
    exact hr.trans h13
  · have hr : val_main_v240 (F := Ideal) x1 x2 x3 x4 x5 x6 (ix6 (0 : Fin 1) b g e p n) = val_main_v209 (F := Ideal) x1 x2 x3 x4 x5 x6 (ix5 b g e p n) := by
      unfold val_main_v240
      exact as_row _ _ b g e p n
    exact hr.trans h14
  · have hr : val_main_v241 (F := Ideal) x1 x2 x3 x4 x5 x6 (ix6 (0 : Fin 1) b g e p n) = val_main_v217 (F := Ideal) x1 x2 x3 x4 x5 x6 (ix5 b g e p n) := by
      unfold val_main_v241
      exact as_row _ _ b g e p n
    exact hr.trans h15

/-- The states, sequence first. -/
theorem ref_prev (b : Fin 8) (c : Fin 16) (g : Fin 2) (e : Fin 8) (p : Fin 64) (n : Fin 128) :
    val_main_v244 (F := Ideal) x1 x2 x3 x4 x5 x6 (ix6 b c g e p n) = prev (ofArrays x0 x1 x2 x3 x4 x5 x6 x7 x8) (ck b c) n (ln g e p) := by
  have h : val_main_v244 (F := Ideal) x1 x2 x3 x4 x5 x6 (ix6 b c g e p n) = val_main_v242 (F := Ideal) x1 x2 x3 x4 x5 x6 (ix6 c b g e p n) := by
    pointwise [val_main_v244, val_main_v243]
    exact dif_neg (Nat.not_lt_zero _)
  rw [h, ← ref_states x0 x1 x2 x3 x4 x5 x6 x7 x8]
  unfold val_main_v242
  exact concatenate_ofFn_unit_apply (t := S16x8x2x8x64x128) (s₁ := S1x8x2x8x64x128) 0 (states x1 x2 x3 x4 x5 x6) _ rfl rfl (ix6 c b g e p n) c rfl (ix6 (0 : Fin 1) b g e p n)
    fun a ha => by fin_cases a <;> first | rfl | exact absurd rfl ha

end Cert.SsdIdeal.Mixer
-- ==== Proof.Ssd.RefOut.lean ====
module

public import proofs.«01_k».proof.Defs
public import proofs.«01_k».proof.Proof.Ssd.RefDiag
public import proofs.«01_k».proof.Proof.Ssd.RefScan
public import proofs.«01_k».proof.Proof.Gen.SsdRefIdeal.Read
public import Idealize.ShloMosaic.Lib.Pipeline.ValueKit
public import Idealize.ShloMosaic.Lib.Pointwise
public import Idealize.ShloMosaic.Lib.Claim
public import Idealize.ShloMosaic.Lib.WindowSum

@[expose] public section

set_option maxRecDepth 16384

noncomputable section

open Idealize.ShloMosaic Idealize.ShloMosaic.TcCoe Idealize.SL.Sem

namespace Cert.SsdIdeal.Mixer

open Cert.SsdRefIdeal Cert.SsdRefIdeal.Read

variable (x0 : FVec Ideal S32768x1024 .bf16) (x1 : FVec Ideal S32768x1536 .bf16) (x2 : FVec Ideal S32768x128 .f32) (x3 : FVec Ideal S4x1536 .f32)
  (x4 : FVec Ideal S1536 .f32) (x5 x6 x7 : FVec Ideal S16 .f32) (x8 : FVec Ideal S1024 .f32)

/-- The earlier chunks' part. -/
theorem ref_off (b : Fin 8) (c : Fin 16) (l : Fin 256) (g : Fin 2) (e : Fin 8) (p : Fin 64) :
    val_main_v251 (F := Ideal) x1 x2 x3 x4 x5 x6 (ix6 b c l g e p) = off (ofArrays x0 x1 x2 x3 x4 x5 x6 x7 x8) (ck b c) l (ln g e p) := by
  have h246 : val_main_v246 (F := Ideal) x1 x2 x3 x4 x5 x6 (ix6 b c l g e p) = val_main_v245 (F := Ideal) x1 x2 x3 x4 x5 x6 (ix6 b c g e p l) := by
    pointwise [val_main_v246]
  have h250 : val_main_v250 (F := Ideal) x2 x5 x6 (ix6 b c l g e p) = val_main_v247 (F := Ideal) x2 x5 x6 (ix5 b g e c l) := by
    pointwise [val_main_v250, val_main_v249, val_main_v248]
  have hs : val_main_v245 (F := Ideal) x1 x2 x3 x4 x5 x6 (ix6 b c g e p l) =
      ∑ n : Fin 128, qry (ofArrays x0 x1 x2 x3 x4 x5 x6 x7 x8) (row (ck b c) l) g n * prev (ofArrays x0 x1 x2 x3 x4 x5 x6 x7 x8) (ck b c) n (ln g e p) := by
    rw [val_main_v245_apply]
    refine Finset.sum_congr rfl fun n _ => ?_
    have hl : lidx_main_v245 (ix6 b c g e p l) n = ix6 b c g e p n := by funext a; fin_cases a <;> rfl
    have hr : ridx_main_v245 (ix6 b c g e p l) n = ix5 b c l g n := by funext a; fin_cases a <;> rfl
    rw [hl, hr, ref_qry x0 x1 x2 x3 x4 x5 x6 x7 x8, ref_prev x0 x1 x2 x3 x4 x5 x6 x7 x8]
    exact mul_comm _ _
  unfold off
  rw [val_main_v251_apply, h246, h250, hs, val_main_v247_apply, ref_cum x0 x1 x2 x3 x4 x5 x6 x7 x8, exp_eq, mulf_eq, head_ln, grp_ln]

/-- The mixed values. -/
theorem ref_mix (b : Fin 8) (c : Fin 16) (l : Fin 256) (g : Fin 2) (e : Fin 8) (p : Fin 64) :
    val_main_v258 (F := Ideal) x1 x2 x3 x4 x5 x6 x7 (ix5 b (⟨c.val * 256 + l.val, by omega⟩ : Fin 4096) g e p) = mix (ofArrays x0 x1 x2 x3 x4 x5 x6 x7 x8) (ck b c) l (ln g e p) := by
  have h253 : val_main_v253 (F := Ideal) x1 x2 x3 x4 x5 x6 (ix5 b (⟨c.val * 256 + l.val, by omega⟩ : Fin 4096) g e p) =
      val_main_v252 (F := Ideal) x1 x2 x3 x4 x5 x6 (ix6 b c l g e p) := by
    pointwise [val_main_v253]
  have h256 : val_main_v256 (F := Ideal) x7 (ix5 b (⟨c.val * 256 + l.val, by omega⟩ : Fin 4096) g e p) = ((ofArrays x0 x1 x2 x3 x4 x5 x6 x7 x8).dk (hd g e)) := by
    pointwise [val_main_v256, val_main_v255, val_main_v254, ofArrays, hd]
  unfold mix
  rw [val_main_v258_apply, h253, val_main_v252_apply, val_main_v257_apply, ref_diag x0 x1 x2 x3 x4 x5 x6 x7 x8, ref_off x0 x1 x2 x3 x4 x5 x6 x7 x8, ref_val x0 x1 x2 x3 x4 x5 x6 x7 x8 b _ g e p _ (row_ck b c l), h256,
    addf_eq, addf_eq, mulf_eq, head_ln]

/-- The gated values. -/
theorem ref_gated (b : Fin 8) (c : Fin 16) (l : Fin 256) (g : Fin 2) (i : Fin 512) :
    val_main_v263 (F := Ideal) x0 x1 x2 x3 x4 x5 x6 x7 (ix4 b (⟨c.val * 256 + l.val, by omega⟩ : Fin 4096) g i) =
      gated (ofArrays x0 x1 x2 x3 x4 x5 x6 x7 x8) (ck b c) l ⟨512 * g.val + i.val, by omega⟩ := by
  have h261 : val_main_v261 (F := Ideal) x1 x2 x3 x4 x5 x6 x7 (ix4 b (⟨c.val * 256 + l.val, by omega⟩ : Fin 4096) g i) =
      val_main_v258 (F := Ideal) x1 x2 x3 x4 x5 x6 x7 (ix5 b (⟨c.val * 256 + l.val, by omega⟩ : Fin 4096) g
        (⟨i.val / 64, by omega⟩ : Fin 8) (⟨i.val % 64, by omega⟩ : Fin 64)) := by
    pointwise [val_main_v261]
  have h260 : val_main_v260 (F := Ideal) x0 (ix4 b (⟨c.val * 256 + l.val, by omega⟩ : Fin 4096) g i) =
      ((ofArrays x0 x1 x2 x3 x4 x5 x6 x7 x8).z (row (ck b c) l) ⟨512 * g.val + i.val, by omega⟩) := by
    pointwise [val_main_v260, val_main_v259, ofArrays]
    refine congrArg x0 ?_
    refine congrArg₂ ix2 (Fin.ext ?_) (Fin.ext ?_)
    · rw [row_ck]
    · dsimp only; omega
  have h262 : val_main_v262 (F := Ideal) x0 (ix4 b (⟨c.val * 256 + l.val, by omega⟩ : Fin 4096) g i) =
      ((ofArrays x0 x1 x2 x3 x4 x5 x6 x7 x8).z (row (ck b c) l) ⟨512 * g.val + i.val, by omega⟩) *
        Ideal.logistic ((ofArrays x0 x1 x2 x3 x4 x5 x6 x7 x8).z (row (ck b c) l) ⟨512 * g.val + i.val, by omega⟩) := by
    rw [← h260]
    pointwise [val_main_v262, val_main_call5_v5, val_main_call5_v4, val_main_call5_v3, val_main_call5_v2, val_main_call5_v1, val_main_call5_v0,
      val_main_call5_cst, val_main_call5_cst_0, Ideal.logistic]
  have hj : (⟨512 * g.val + i.val, by omega⟩ : Fin 1024) = ln g ⟨i.val / 64, by omega⟩ ⟨i.val % 64, by omega⟩ :=
    Fin.ext (show 512 * g.val + i.val = g.val * 512 + i.val / 64 * 64 + i.val % 64 by omega)
  unfold gated
  rw [val_main_v263_apply, h261, h262, ref_mix x0 x1 x2 x3 x4 x5 x6 x7 x8, ← hj, mulf_eq]

/-- And normalised within the group. -/
theorem ref_normed (b : Fin 8) (c : Fin 16) (l : Fin 256) (j : Fin 1024) :
    val_main_v277 (F := Ideal) x0 x1 x2 x3 x4 x5 x6 x7 x8 (ix4 b (⟨c.val * 256 + l.val, by omega⟩ : Fin 4096) (grp j) (⟨j.val % 512, by omega⟩ : Fin 512)) =
      normed (ofArrays x0 x1 x2 x3 x4 x5 x6 x7 x8) (ck b c) l j := by
  have hj : (⟨512 * (grp j).val + j.val % 512, by have := (grp j).isLt; omega⟩ : Fin 1024) = j :=
    Fin.ext (show 512 * (j.val / 512) + j.val % 512 = j.val by omega)
  have h272 : val_main_v272 (F := Ideal) x0 x1 x2 x3 x4 x5 x6 x7 (ix4 b (⟨c.val * 256 + l.val, by omega⟩ : Fin 4096) (grp j) (⟨j.val % 512, by omega⟩ : Fin 512)) =
      val_main_v271 (F := Ideal) x0 x1 x2 x3 x4 x5 x6 x7 (ix4 b (⟨c.val * 256 + l.val, by omega⟩ : Fin 4096) (grp j) (0 : Fin 1)) := by
    pointwise [val_main_v272]
  have h266 : val_main_v266 (F := Ideal) x0 x1 x2 x3 x4 x5 x6 x7 (ix4 b (⟨c.val * 256 + l.val, by omega⟩ : Fin 4096) (grp j) (0 : Fin 1)) =
      val_main_v265 (F := Ideal) x0 x1 x2 x3 x4 x5 x6 x7 (ix3 b (⟨c.val * 256 + l.val, by omega⟩ : Fin 4096) (grp j)) := by
    pointwise [val_main_v266]
  have h265 : val_main_v265 (F := Ideal) x0 x1 x2 x3 x4 x5 x6 x7 (ix3 b (⟨c.val * 256 + l.val, by omega⟩ : Fin 4096) (grp j)) =
      ∑ i : Fin 512, gated (ofArrays x0 x1 x2 x3 x4 x5 x6 x7 x8) (ck b c) l ⟨512 * (grp j).val + i.val, by have := (grp j).isLt; omega⟩ *
        gated (ofArrays x0 x1 x2 x3 x4 x5 x6 x7 x8) (ck b c) l ⟨512 * (grp j).val + i.val, by have := (grp j).isLt; omega⟩ := by
    rw [val_main_v265_apply, val_main_cst_4_apply]
    refine (congrArg₂ (fun a b : EReal => a + b) Ideal.ofBits_zero_f32 (Finset.sum_congr rfl fun i _ => ?_)).trans (zero_add _)
    have hi : idx_main_v265 (ix3 b (⟨c.val * 256 + l.val, by omega⟩ : Fin 4096) (grp j)) i = ix4 b (⟨c.val * 256 + l.val, by omega⟩ : Fin 4096) (grp j) i := by
      funext a; fin_cases a <;> rfl
    rw [hi, val_main_v264_apply, ref_gated x0 x1 x2 x3 x4 x5 x6 x7 x8, mulf_eq]
  have h267 : val_main_v267 (F := Ideal) (ix4 b (⟨c.val * 256 + l.val, by omega⟩ : Fin 4096) (grp j) (0 : Fin 1)) = Ideal.ofBits .f32 1140850688#32 := by
    pointwise [val_main_v267, val_main_cst_5]
  have h269 : val_main_v269 (F := Ideal) (ix4 b (⟨c.val * 256 + l.val, by omega⟩ : Fin 4096) (grp j) (0 : Fin 1)) = Ideal.ofBits .f32 897988541#32 := by
    pointwise [val_main_v269, val_main_cst_6]
  have h276 : val_main_v276 (F := Ideal) x8 (ix4 b (⟨c.val * 256 + l.val, by omega⟩ : Fin 4096) (grp j) (⟨j.val % 512, by omega⟩ : Fin 512)) = ((ofArrays x0 x1 x2 x3 x4 x5 x6 x7 x8).ng j) := by
    refine Eq.trans ?_ (congrArg ((ofArrays x0 x1 x2 x3 x4 x5 x6 x7 x8).ng) hj)
    pointwise [val_main_v276, val_main_v275, val_main_v274, ofArrays]
    exact congrArg x8 (congrArg ix1 (Fin.ext (show (grp j).val * 512 + j.val % 512 = 512 * (grp j).val + j.val % 512 by omega)))
  unfold normed
  rw [val_main_v277_apply, val_main_v273_apply, h272, val_main_v271_apply, val_main_v270_apply, val_main_v268_apply, h266, h265, h267, h269, h276,
    ref_gated x0 x1 x2 x3 x4 x5 x6 x7 x8, hj, mulf_eq, mulf_eq, addf_eq]
  rfl

/-- The result. -/
theorem ref_out (r : Fin 32768) (j : Fin 1024) :
    val_main_v279 (F := Ideal) x0 x1 x2 x3 x4 x5 x6 x7 x8 (ix2 r j) = normed (ofArrays x0 x1 x2 x3 x4 x5 x6 x7 x8) (r.val / 256) ⟨r.val % 256, by omega⟩ j := by
  have h : val_main_v278 (F := Ideal) x0 x1 x2 x3 x4 x5 x6 x7 x8 (ix2 r j) =
      val_main_v277 (F := Ideal) x0 x1 x2 x3 x4 x5 x6 x7 x8 (ix4 (⟨r.val / 4096, by omega⟩ : Fin 8) (⟨r.val % 4096 / 256 * 256 + r.val % 256, by omega⟩ : Fin 4096)
        (grp j) (⟨j.val % 512, by omega⟩ : Fin 512)) := by
    have hs : (⟨r.val % 4096, by omega⟩ : Fin 4096) = ⟨r.val % 4096 / 256 * 256 + r.val % 256, by omega⟩ :=
      Fin.ext (show r.val % 4096 = r.val % 4096 / 256 * 256 + r.val % 256 by omega)
    rw [← hs]
    pointwise [val_main_v278, grp]
  have ht : ck (⟨r.val / 4096, by omega⟩ : Fin 8) (⟨r.val % 4096 / 256, by omega⟩ : Fin 16) = r.val / 256 :=
    show 16 * (r.val / 4096) + r.val % 4096 / 256 = r.val / 256 by omega
  rw [val_main_v279_apply, h]
  refine Eq.trans (ref_normed x0 x1 x2 x3 x4 x5 x6 x7 x8 (⟨r.val / 4096, by omega⟩ : Fin 8) (⟨r.val % 4096 / 256, by omega⟩ : Fin 16) (⟨r.val % 256, by omega⟩ : Fin 256) j) ?_
  rw [ht]

end Cert.SsdIdeal.Mixer
-- ==== Proof.Ssd.Buffer.lean ====
module

public import proofs.«01_k».proof.Proof.Ssd.Chunk
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.SsdIdeal.Mixer

open Cert.SsdIdeal Cert.SsdIdeal.Gen

/-! The chunk's accumulator: after the skip and carried-state part of a half is stored, every pair of
heads adds its two blocks. Read back as a whole, lane `j` of row `l` is the stored part plus the one
contribution of `j`'s head. -/

section Pieces
variable (v106 : FVec Ideal S256x128 .f32) (v146 : FVec Ideal S16x256 .f32)
  (v187 v500 : FVec Ideal S256x256 .f32)
  (v65 : FVec Ideal S256x1024 .f32) (v81 : FVec Ideal S256x128 .f32) (v173 : Vec Ideal S256x1024 .bf16)
  (b0 b1 : FVec Ideal S256x512 .f32)

/-- The first half's stored part. -/
def base0 : List (View.Piece (Elt Ideal) S256x1024 .f32) :=
  [⟨Rect.unit (s := S256x1024) ![0, 0] S256x512.size inb_S256x1024_S256x512_0_0, b0⟩]

/-- The eight blocks of the first four pairs, last stored first. -/
def pairs0 : List (View.Piece (Elt Ideal) S256x1024 .f32) :=
  [⟨(Rect.unit (s := S256x1024) ![128, 384] S128x128.size inb_S256x1024_S128x128_128_384), k0_pay71 (k0_pay69 k0_pay10 v106 v146 (k0_pay23 v65 v81 v173) k0_pay24 v187 k0_pay61 (k0_pay62 (k0_pay23 v65 v81 v173) k0_pay24) (k0_pay65 k0_pay10 v106 v146)) ((View.whole cc0_scratch2).readCov (base0 b0) (Rect.unit (s := S256x1024) ![128, 384] S128x128.size inb_S256x1024_S128x128_128_384).toLoadRect)⟩,
   ⟨(Rect.unit (s := S256x1024) ![0, 384] S128x128.size inb_S256x1024_S128x128_0_384), k0_pay70 k0_pay10 v106 v146 (k0_pay23 v65 v81 v173) k0_pay24 v187 k0_pay60 (k0_pay62 (k0_pay23 v65 v81 v173) k0_pay24) (k0_pay64 k0_pay10 v106 v146) (k0_pay66 v187) ((View.whole cc0_scratch2).readCov (base0 b0) (Rect.unit (s := S256x1024) ![0, 384] S128x128.size inb_S256x1024_S128x128_0_384).toLoadRect)⟩,
   ⟨(Rect.unit (s := S256x1024) ![128, 256] S128x128.size inb_S256x1024_S128x128_128_256), k0_pay59 v187 (k0_pay53 k0_pay10 v106 v146 (k0_pay23 v65 v81 v173) k0_pay24 v187) (k0_pay54 (k0_pay23 v65 v81 v173) k0_pay24) (k0_pay57 k0_pay10 v106 v146) ((View.whole cc0_scratch2).readCov (base0 b0) (Rect.unit (s := S256x1024) ![128, 256] S128x128.size inb_S256x1024_S128x128_128_256).toLoadRect)⟩,
   ⟨(Rect.unit (s := S256x1024) ![0, 256] S128x128.size inb_S256x1024_S128x128_0_256), k0_pay58 v187 (k0_pay52 k0_pay10 v106 v146 (k0_pay23 v65 v81 v173) k0_pay24 v187) (k0_pay54 (k0_pay23 v65 v81 v173) k0_pay24) (k0_pay56 k0_pay10 v106 v146) ((View.whole cc0_scratch2).readCov (base0 b0) (Rect.unit (s := S256x1024) ![0, 256] S128x128.size inb_S256x1024_S128x128_0_256).toLoadRect)⟩,
   ⟨(Rect.unit (s := S256x1024) ![128, 128] S128x128.size inb_S256x1024_S128x128_128_128), k0_pay49 k0_pay10 v106 v146 (k0_pay23 v65 v81 v173) k0_pay24 v187 k0_pay41 (k0_pay42 (k0_pay23 v65 v81 v173) k0_pay24) (k0_pay45 k0_pay10 v106 v146 v187) ((View.whole cc0_scratch2).readCov (base0 b0) (Rect.unit (s := S256x1024) ![128, 128] S128x128.size inb_S256x1024_S128x128_128_128).toLoadRect)⟩,
   ⟨(Rect.unit (s := S256x1024) ![0, 128] S128x128.size inb_S256x1024_S128x128_0_128), k0_pay48 k0_pay10 v106 v146 (k0_pay23 v65 v81 v173) k0_pay24 v187 (k0_pay44 k0_pay10 v106 v146 (k0_pay23 v65 v81 v173) k0_pay24 v187) ((View.whole cc0_scratch2).readCov (base0 b0) (Rect.unit (s := S256x1024) ![0, 128] S128x128.size inb_S256x1024_S128x128_0_128).toLoadRect)⟩,
   ⟨(Rect.unit (s := S256x1024) ![128, 0] S128x128.size inb_S256x1024_S128x128_128_0), k0_pay40 v187 (k0_pay34 k0_pay10 v106 v146 v187 k0_pay31 (k0_pay32 v65 v81 v173)) (k0_pay35 (k0_pay23 v65 v81 v173) k0_pay24) (k0_pay37 k0_pay10 v106 v146) ((View.whole cc0_scratch2).readCov (base0 b0) (Rect.unit (s := S256x1024) ![128, 0] S128x128.size inb_S256x1024_S128x128_128_0).toLoadRect)⟩,
   ⟨(Rect.unit (s := S256x1024) ![0, 0] S128x128.size inb_S256x1024_S128x128_0_0), k0_pay39 (k0_pay38 k0_pay10 v106 v146 (k0_pay23 v65 v81 v173) k0_pay24 v187 k0_pay30 (k0_pay32 v65 v81 v173)) ((View.whole cc0_scratch2).readCov (base0 b0) (Rect.unit (s := S256x1024) ![0, 0] S128x128.size inb_S256x1024_S128x128_0_0).toLoadRect)⟩]

/-- What the accumulator holds after the first half, and the second half's stored part over it. -/
def base1 : List (View.Piece (Elt Ideal) S256x1024 .f32) :=
  ⟨Rect.unit (s := S256x1024) ![0, 512] S256x512.size inb_S256x1024_S256x512_0_512, b1⟩ ::
    (pairs0 v106 v146 v187 v65 v81 v173 b0 ++ base0 b0)

/-- The eight blocks of the last four pairs, last stored first. -/
def pairs1 : List (View.Piece (Elt Ideal) S256x1024 .f32) :=
  [⟨(Rect.unit (s := S256x1024) ![128, 896] S128x128.size inb_S256x1024_S128x128_128_896), k0_pay119 (k0_pay117 k0_pay10 v106 v146 (k0_pay23 v65 v81 v173) k0_pay24 v500 k0_pay109 (k0_pay110 (k0_pay23 v65 v81 v173) k0_pay24) (k0_pay113 k0_pay10 v106 v146)) ((View.whole cc0_scratch2).readCov (base1 v106 v146 v187 v65 v81 v173 b0 b1) (Rect.unit (s := S256x1024) ![128, 896] S128x128.size inb_S256x1024_S128x128_128_896).toLoadRect)⟩,
   ⟨(Rect.unit (s := S256x1024) ![0, 896] S128x128.size inb_S256x1024_S128x128_0_896), k0_pay118 k0_pay10 v106 v146 (k0_pay23 v65 v81 v173) k0_pay24 v500 k0_pay108 (k0_pay110 (k0_pay23 v65 v81 v173) k0_pay24) (k0_pay112 k0_pay10 v106 v146) (k0_pay114 v500) ((View.whole cc0_scratch2).readCov (base1 v106 v146 v187 v65 v81 v173 b0 b1) (Rect.unit (s := S256x1024) ![0, 896] S128x128.size inb_S256x1024_S128x128_0_896).toLoadRect)⟩,
   ⟨(Rect.unit (s := S256x1024) ![128, 768] S128x128.size inb_S256x1024_S128x128_128_768), k0_pay107 v500 (k0_pay101 k0_pay10 v106 v146 (k0_pay23 v65 v81 v173) k0_pay24 v500) (k0_pay102 (k0_pay23 v65 v81 v173) k0_pay24) (k0_pay105 k0_pay10 v106 v146) ((View.whole cc0_scratch2).readCov (base1 v106 v146 v187 v65 v81 v173 b0 b1) (Rect.unit (s := S256x1024) ![128, 768] S128x128.size inb_S256x1024_S128x128_128_768).toLoadRect)⟩,
   ⟨(Rect.unit (s := S256x1024) ![0, 768] S128x128.size inb_S256x1024_S128x128_0_768), k0_pay106 v500 (k0_pay100 k0_pay10 v106 v146 (k0_pay23 v65 v81 v173) k0_pay24 v500) (k0_pay102 (k0_pay23 v65 v81 v173) k0_pay24) (k0_pay104 k0_pay10 v106 v146) ((View.whole cc0_scratch2).readCov (base1 v106 v146 v187 v65 v81 v173 b0 b1) (Rect.unit (s := S256x1024) ![0, 768] S128x128.size inb_S256x1024_S128x128_0_768).toLoadRect)⟩,
   ⟨(Rect.unit (s := S256x1024) ![128, 640] S128x128.size inb_S256x1024_S128x128_128_640), k0_pay97 k0_pay10 v106 v146 (k0_pay23 v65 v81 v173) k0_pay24 v500 k0_pay89 (k0_pay90 (k0_pay23 v65 v81 v173) k0_pay24) (k0_pay93 k0_pay10 v106 v146 v500) ((View.whole cc0_scratch2).readCov (base1 v106 v146 v187 v65 v81 v173 b0 b1) (Rect.unit (s := S256x1024) ![128, 640] S128x128.size inb_S256x1024_S128x128_128_640).toLoadRect)⟩,
   ⟨(Rect.unit (s := S256x1024) ![0, 640] S128x128.size inb_S256x1024_S128x128_0_640), k0_pay96 k0_pay10 v106 v146 (k0_pay23 v65 v81 v173) k0_pay24 v500 (k0_pay92 k0_pay10 v106 v146 (k0_pay23 v65 v81 v173) k0_pay24 v500) ((View.whole cc0_scratch2).readCov (base1 v106 v146 v187 v65 v81 v173 b0 b1) (Rect.unit (s := S256x1024) ![0, 640] S128x128.size inb_S256x1024_S128x128_0_640).toLoadRect)⟩,
   ⟨(Rect.unit (s := S256x1024) ![128, 512] S128x128.size inb_S256x1024_S128x128_128_512), k0_pay88 v500 (k0_pay82 k0_pay10 v106 v146 v500 k0_pay79 (k0_pay80 (k0_pay23 v65 v81 v173) k0_pay24)) (k0_pay83 (k0_pay23 v65 v81 v173) k0_pay24) (k0_pay85 k0_pay10 v106 v146) ((View.whole cc0_scratch2).readCov (base1 v106 v146 v187 v65 v81 v173 b0 b1) (Rect.unit (s := S256x1024) ![128, 512] S128x128.size inb_S256x1024_S128x128_128_512).toLoadRect)⟩,
   ⟨(Rect.unit (s := S256x1024) ![0, 512] S128x128.size inb_S256x1024_S128x128_0_512), k0_pay87 (k0_pay86 k0_pay10 v106 v146 (k0_pay23 v65 v81 v173) k0_pay24 v500 k0_pay78 (k0_pay80 (k0_pay23 v65 v81 v173) k0_pay24)) ((View.whole cc0_scratch2).readCov (base1 v106 v146 v187 v65 v81 v173 b0 b1) (Rect.unit (s := S256x1024) ![0, 512] S128x128.size inb_S256x1024_S128x128_0_512).toLoadRect)⟩]

/-- The accumulator read back as a whole. -/
def ybuf : FVec Ideal S256x1024 .f32 :=
  (View.whole cc0_scratch2).readCov
    (pairs1 v106 v146 v187 v500 v65 v81 v173 b0 b1 ++ base1 v106 v146 v187 v65 v81 v173 b0 b1)
    (Rect.unit (s := S256x1024) ![0, 0] S256x1024.size inb_S256x1024_S256x1024_0_0).toLoadRect

end Pieces

/-! What one grid point stores, as functions of the blocks it reads: `a b c` are the three shifted
views of the carried input rows, `s0 s1` the carried states of the two groups. -/

section Point
variable (Z : Vec Ideal S256x1024 .bf16) (X : Vec Ideal S256x1536 .bf16) (D : Vec Ideal S256x128 .f32)
  (DT : Vec Ideal S1x16x256 .f32) (cw : Vec Ideal S4x1536 .f32) (cb : Vec Ideal S1x1536 .f32)
  (db : Vec Ideal S1x128 .f32) (dbT : Vec Ideal S16x1 .f32) (al : Vec Ideal S1x128 .f32) (alT : Vec Ideal S16x1 .f32)
  (dk ng : Vec Ideal S1x1024 .f32) (E : Vec Ideal S256x1024 .bf16) (sh : Vec Ideal S768x256 .bf16)
  (a b c : Vec Ideal S8x1536 .f32) (s0 s1 : Vec Ideal S1x128x512 .f32)

/-- The convolution of the chunk's rows before the carried rows are put in. -/
def accP : FVec Ideal S256x1536 .f32 :=
  k0_pay5 X sh cb (View.ld cw (Rect.unit (s := S4x1536) ![3, 0] S1x1536.size inb_S4x1536_S1x1536_3_0))
    (View.ld cw (Rect.unit (s := S4x1536) ![0, 0] S1x1536.size inb_S4x1536_S1x1536_0_0))
    (View.ld cw (Rect.unit (s := S4x1536) ![1, 0] S1x1536.size inb_S4x1536_S1x1536_1_0))
    (View.ld cw (Rect.unit (s := S4x1536) ![2, 0] S1x1536.size inb_S4x1536_S1x1536_2_0))

/-- The activated convolution. -/
def actP : FVec Ideal S256x1536 .f32 :=
  k0_pay8 (accP X cw cb sh) cb (View.ld cw (Rect.unit (s := S4x1536) ![0, 0] S1x1536.size inb_S4x1536_S1x1536_0_0)) a
    (View.ld cw (Rect.unit (s := S4x1536) ![1, 0] S1x1536.size inb_S4x1536_S1x1536_1_0)) b
    (View.ld cw (Rect.unit (s := S4x1536) ![2, 0] S1x1536.size inb_S4x1536_S1x1536_2_0)) c
    (View.ld cw (Rect.unit (s := S4x1536) ![3, 0] S1x1536.size inb_S4x1536_S1x1536_3_0)) (k0_pay6 X)

/-- Its value columns. -/
def valP : FVec Ideal S256x1024 .f32 :=
  k0_pay9 (accP X cw cb sh) cb (View.ld cw (Rect.unit (s := S4x1536) ![0, 0] S1x1536.size inb_S4x1536_S1x1536_0_0)) a
    (View.ld cw (Rect.unit (s := S4x1536) ![1, 0] S1x1536.size inb_S4x1536_S1x1536_1_0)) b
    (View.ld cw (Rect.unit (s := S4x1536) ![2, 0] S1x1536.size inb_S4x1536_S1x1536_2_0)) c
    (View.ld cw (Rect.unit (s := S4x1536) ![3, 0] S1x1536.size inb_S4x1536_S1x1536_3_0)) (k0_pay6 X)

/-- The running sums, row-wise. -/
def cumP : FVec Ideal S256x128 .f32 := k0_pay13 k0_pay10 D (k0_pay11 db) al

/-- The running sums, column-wise. -/
def cumTP : FVec Ideal S16x256 .f32 :=
  k0_pay18 (iota .tc S256x256 32 [0] iota_S256x256_d0_w32) (iota .tc S256x256 32 [1] iota_S256x256_d1_w32)
    (k0_pay15 DT dbT) (k0_pay16 DT dbT) k0_pay17 alT

/-- The step sizes. -/
def stepP : FVec Ideal S256x128 .f32 := k0_pay12 D (k0_pay11 db)

/-- The chunk's accumulator. -/
def yP : FVec Ideal S256x1024 .f32 :=
  ybuf (cumP D db al) (cumTP DT dbT alT) (k0_pay27 (actP X cw cb sh a b c)) (k0_pay75 (actP X cw cb sh a b c))
    (valP X cw cb sh a b c) (stepP D db) E
    (k0_pay29 (actP X cw cb sh a b c) (valP X cw cb sh a b c) (k0_pay19 (cumP D db al) E) s0
      (View.ld dk (Rect.unit (s := S1x1024) ![0, 0] S1x512.size inb_S1x1024_S1x512_0_0)))
    (k0_pay77 (actP X cw cb sh a b c) (valP X cw cb sh a b c) (k0_pay19 (cumP D db al) E) s1
      (View.ld dk (Rect.unit (s := S1x1024) ![0, 512] S1x512.size inb_S1x1024_S1x512_0_512)))

/-- The stored output block. -/
def outP : Vec Ideal S256x1024 .bf16 := View.canon
  [⟨Rect.unit (s := S256x1024) ![0, 512] S256x512.size inb_S256x1024_S256x512_0_512,
     k0_pay1 (k0_pay123 (yP X D DT cw cb db dbT al alT dk E sh a b c s0 s1) Z)
       (View.ld ng (Rect.unit (s := S1x1024) ![0, 512] S1x512.size inb_S1x1024_S1x512_0_512))⟩,
   ⟨Rect.unit (s := S256x1024) ![0, 0] S256x512.size inb_S256x1024_S256x512_0_0,
     k0_pay122 (yP X D DT cw cb db dbT al alT dk E sh a b c s0 s1) Z
       (View.ld ng (Rect.unit (s := S1x1024) ![0, 0] S1x512.size inb_S1x1024_S1x512_0_0))⟩]

/-- The first group's carried state afterwards. -/
def lowP : FVec Ideal S1x128x512 .f32 :=
  k0_pay72 (k0_pay19 (cumP D db al) E)
    (k0_pay22 (valP X cw cb sh a b c) (stepP D db) (k0_pay20 (cumP D db al)) E E)
    (k0_pay25 (actP X cw cb sh a b c)) (k0_pay28 s0)

/-- The second group's carried state afterwards. -/
def highP : FVec Ideal S1x128x512 .f32 :=
  k0_pay120 (k0_pay19 (cumP D db al) E)
    (k0_pay22 (valP X cw cb sh a b c) (stepP D db) (k0_pay20 (cumP D db al)) E E)
    (k0_pay73 (actP X cw cb sh a b c)) (k0_pay76 s1)

end Point

/-! ### Reading the accumulator back -/

/-- Pieces that do not hold an index do not matter there. -/
theorem canon_skip {S : Shape} {e : EltTy} (L L' : List (View.Piece (Elt Ideal) S e)) (y : S.Idx) (h : ∀ p ∈ L, y ∉ p.1.set) :
    View.canon (L ++ L') y = View.canon L' y := by
  induction L with
  | nil => rfl
  | cons p L ih =>
    rw [List.cons_append, View.canon_cons_of_not_mem _ _ (h p List.mem_cons_self)]
    exact ih fun q hq => h q (List.mem_cons_of_mem _ hq)

/-- Where the later pieces hold an index, the earlier ones do not matter. -/
theorem canon_hit {S : Shape} {e : EltTy} (L L' : List (View.Piece (Elt Ideal) S e)) (y : S.Idx) (h : ∃ p ∈ L, y ∈ p.1.set) :
    View.canon (L ++ L') y = View.canon L y := by
  induction L with
  | nil => obtain ⟨p, hp, _⟩ := h; exact absurd hp List.not_mem_nil
  | cons p L ih =>
    by_cases hm : y ∈ p.1.set
    · obtain ⟨x, rfl⟩ := p.1.exists_idx_of_mem hm
      rw [List.cons_append, show p.1.idx x = p.1.emb x from rfl]
      obtain ⟨r, w⟩ := p
      rw [View.canon_cons_emb, View.canon_cons_emb]
    · rw [List.cons_append, View.canon_cons_of_not_mem _ _ hm, View.canon_cons_of_not_mem _ _ hm]
      refine ih ?_
      obtain ⟨q, hq, hy⟩ := h
      rcases List.mem_cons.mp hq with rfl | hq'
      · exact absurd hy hm
      · exact ⟨q, hq', hy⟩

/-- Membership of a lane in a block of the accumulator. -/
theorem mem_block {o p u w : ℕ} {inb} (l : Fin 256) (j : Fin 1024) :
    (ix2 l j : S256x1024.Idx) ∈ (Rect.unit (s := S256x1024) ![o, p] ![u, w] inb).set ↔
      (o ≤ l.val ∧ l.val < o + u) ∧ (p ≤ j.val ∧ j.val < p + w) := by
  rw [Rect.mem_set_unit]
  constructor
  · intro h; exact ⟨h 0, h 1⟩
  · intro h a
    fin_cases a
    · exact h.1
    · exact h.2

/-- Of two heads' contributions the lane's own one is taken. -/
theorem pick (f : Fin 128 → Fin 16 → EReal) (p : ℕ) (x : Fin 128) (j : Fin 1024) (hj : j.val = 128 * p + x.val)
    (a a' : Fin 128) (b b' : Fin 16) (ha : a.val = 2 * p) (ha' : a'.val = 2 * p + 1) (hb : b.val = 2 * p) (hb' : b'.val = 2 * p + 1) :
    (if x.val < 64 then f a b else f a' b') = f ⟨j.val / 64, by omega⟩ ⟨j.val / 64, by omega⟩ := by
  split_ifs with h
  · exact congrArg₂ f (Fin.ext (by dsimp only; omega)) (Fin.ext (by dsimp only; omega))
  · exact congrArg₂ f (Fin.ext (by dsimp only; omega)) (Fin.ext (by dsimp only; omega))

/-- The stored part plus a pair's contribution, at the global row and lane. -/
theorem settle (f : Fin 128 → Fin 16 → Fin 256 → Fin 1024 → EReal) (g : Fin 256 → Fin 512 → EReal) (p : ℕ) (x : Fin 128)
    (l row r : Fin 256) (j lane : Fin 1024) (c c' : Fin 512) (a a' : Fin 128) (b b' : Fin 16)
    (hj : j.val = 128 * p + x.val) (hr : row = l) (hl : lane = j) (hr' : r = l) (hc : c = c')
    (ha : a.val = 2 * p) (ha' : a'.val = 2 * p + 1) (hb : b.val = 2 * p) (hb' : b'.val = 2 * p + 1) :
    (g r c + if x.val < 64 then f a b row lane else f a' b' row lane) =
      g l c' + f ⟨j.val / 64, by omega⟩ ⟨j.val / 64, by omega⟩ l j := by
  subst hr hl hc hr'
  rw [pick (fun a b => f a b r lane) p x lane hj a a' b b' ha ha' hb hb']

section Read
variable (v106 : FVec Ideal S256x128 .f32) (v146 : FVec Ideal S16x256 .f32)
  (v187 v500 : FVec Ideal S256x256 .f32)
  (v65 : FVec Ideal S256x1024 .f32) (v81 : FVec Ideal S256x128 .f32) (v173 : Vec Ideal S256x1024 .bf16)
  (b0 b1 : FVec Ideal S256x512 .f32)

/-- A block of the first stored part, loaded before its pair is added. -/
theorem base0_at {o p : ℕ} {inb} (a b : Fin 128) (ho : o + 128 ≤ 256) (hp : p + 128 ≤ 512) :
    (View.whole cc0_scratch2).readCov (base0 b0) (Rect.unit (s := S256x1024) ![o, p] S128x128.size inb).toLoadRect (ix2 a b) =
      b0 (ix2 ⟨o + a.val, by omega⟩ ⟨p + b.val, by omega⟩) := by
  rw [View.readCov_eq_canon']
  have e : (Rect.unit (s := S256x1024) ![o, p] S128x128.size inb).toLoadRect.idx (ix2 a b) =
      (Rect.unit (s := S256x1024) ![0, 0] S256x512.size inb_S256x1024_S256x512_0_0).emb
        (ix2 ⟨o + a.val, by omega⟩ ⟨p + b.val, by omega⟩) := by
    funext i
    fin_cases i
    · apply Fin.ext; show o + 1 * a.val = 0 + 1 * (o + a.val); omega
    · apply Fin.ext; show p + 1 * b.val = 0 + 1 * (p + b.val); omega
  show View.canon _ _ = _
  rw [e]
  exact View.canon_cons_emb _ _ _ _

/-- A block of the second stored part, loaded before its pair is added. -/
theorem base1_at {o p : ℕ} {inb} (a b : Fin 128) (ho : o + 128 ≤ 256) (hp : p + 128 ≤ 512) :
    (View.whole cc0_scratch2).readCov (base1 v106 v146 v187 v65 v81 v173 b0 b1)
      (Rect.unit (s := S256x1024) ![o, 512 + p] S128x128.size inb).toLoadRect (ix2 a b) =
      b1 (ix2 ⟨o + a.val, by omega⟩ ⟨p + b.val, by omega⟩) := by
  rw [View.readCov_eq_canon']
  have e : (Rect.unit (s := S256x1024) ![o, 512 + p] S128x128.size inb).toLoadRect.idx (ix2 a b) =
      (Rect.unit (s := S256x1024) ![0, 512] S256x512.size inb_S256x1024_S256x512_0_512).emb
        (ix2 ⟨o + a.val, by omega⟩ ⟨p + b.val, by omega⟩) := by
    funext i
    fin_cases i
    · apply Fin.ext; show o + 1 * a.val = 0 + 1 * (o + a.val); omega
    · apply Fin.ext; show 512 + p + 1 * b.val = 512 + 1 * (p + b.val); omega
  show View.canon _ _ = _
  rw [e]
  exact View.canon_cons_emb _ _ _ _

/-- The whole accumulator, as the pieces' canonical contents. -/
theorem ybuf_eq (l : Fin 256) (j : Fin 1024) : ybuf v106 v146 v187 v500 v65 v81 v173 b0 b1 (ix2 l j) =
    View.canon (pairs1 v106 v146 v187 v500 v65 v81 v173 b0 b1 ++ base1 v106 v146 v187 v65 v81 v173 b0 b1) (ix2 l j) := by
  unfold ybuf
  rw [View.readCov_eq_canon']
  show View.canon _ _ = _
  congr 1
  funext i
  fin_cases i
  · apply Fin.ext; show 0 + 1 * l.val = l.val; omega
  · apply Fin.ext; show 0 + 1 * j.val = j.val; omega

/-- Lanes of the last four pairs. -/
theorem ybuf_high (l : Fin 256) (j : Fin 1024) (hj : 512 ≤ j.val) : ybuf v106 v146 v187 v500 v65 v81 v173 b0 b1 (ix2 l j) =
    b1 (ix2 l ⟨j.val - 512, by omega⟩) +
      duo v106 v146 v500 (k0_pay23 v65 v81 v173) ⟨j.val / 64, by omega⟩ ⟨j.val / 64, by omega⟩ l j := by
  rw [ybuf_eq]
  have cover : ∃ p ∈ pairs1 v106 v146 v187 v500 v65 v81 v173 b0 b1, (ix2 l j : S256x1024.Idx) ∈ p.1.set := by
    unfold pairs1
    simp only [List.exists_mem_cons_iff, List.not_mem_nil, false_and, exists_false, or_false]
    simp only [S128x128, mem_block]
    omega
  rw [canon_hit _ _ _ cover]
  unfold pairs1 at cover ⊢
  canon_tiles x h using cover
  case piece0 =>
    obtain ⟨u, w, rfl⟩ : ∃ (u w : Fin 128), x = ix2 u w := ⟨x 0, x 1, eq_ix2 x⟩
    have e0 : l.val = 128 + u.val := h0
    have e1 : j.val = 896 + w.val := h1
    refine (bot7 v106 v146 v500 (k0_pay23 v65 v81 v173) _ u w).trans ?_
    rw [base1_at v106 v146 v187 v65 v81 v173 b0 b1 (o := 128) (p := 384) u w (by omega) (by omega)]
    exact settle (duo v106 v146 v500 (k0_pay23 v65 v81 v173)) (fun r c => b1 (ix2 r c)) 7 w l _ _ j _ _ _ _ _ _ _ (by omega)
      (Fin.ext (by dsimp only; omega)) (Fin.ext (by dsimp only; omega)) (Fin.ext (by dsimp only; omega)) (Fin.ext (by dsimp only; omega)) rfl rfl rfl rfl
  case piece1 =>
    obtain ⟨u, w, rfl⟩ : ∃ (u w : Fin 128), x = ix2 u w := ⟨x 0, x 1, eq_ix2 x⟩
    have e0 : l.val = u.val := h0
    have e1 : j.val = 896 + w.val := h1
    refine (top7 v106 v146 v500 (k0_pay23 v65 v81 v173) _ u w).trans ?_
    rw [base1_at v106 v146 v187 v65 v81 v173 b0 b1 (o := 0) (p := 384) u w (by omega) (by omega)]
    exact settle (duo v106 v146 v500 (k0_pay23 v65 v81 v173)) (fun r c => b1 (ix2 r c)) 7 w l _ _ j _ _ _ _ _ _ _ (by omega)
      (Fin.ext (by dsimp only; omega)) (Fin.ext (by dsimp only; omega)) (Fin.ext (by dsimp only; omega)) (Fin.ext (by dsimp only; omega)) rfl rfl rfl rfl
  case piece2 =>
    obtain ⟨u, w, rfl⟩ : ∃ (u w : Fin 128), x = ix2 u w := ⟨x 0, x 1, eq_ix2 x⟩
    have e0 : l.val = 128 + u.val := h0
    have e1 : j.val = 768 + w.val := h1
    refine (bot6 v106 v146 v500 (k0_pay23 v65 v81 v173) _ u w).trans ?_
    rw [base1_at v106 v146 v187 v65 v81 v173 b0 b1 (o := 128) (p := 256) u w (by omega) (by omega)]
    exact settle (duo v106 v146 v500 (k0_pay23 v65 v81 v173)) (fun r c => b1 (ix2 r c)) 6 w l _ _ j _ _ _ _ _ _ _ (by omega)
      (Fin.ext (by dsimp only; omega)) (Fin.ext (by dsimp only; omega)) (Fin.ext (by dsimp only; omega)) (Fin.ext (by dsimp only; omega)) rfl rfl rfl rfl
  case piece3 =>
    obtain ⟨u, w, rfl⟩ : ∃ (u w : Fin 128), x = ix2 u w := ⟨x 0, x 1, eq_ix2 x⟩
    have e0 : l.val = u.val := h0
    have e1 : j.val = 768 + w.val := h1
    refine (top6 v106 v146 v500 (k0_pay23 v65 v81 v173) _ u w).trans ?_
    rw [base1_at v106 v146 v187 v65 v81 v173 b0 b1 (o := 0) (p := 256) u w (by omega) (by omega)]
    exact settle (duo v106 v146 v500 (k0_pay23 v65 v81 v173)) (fun r c => b1 (ix2 r c)) 6 w l _ _ j _ _ _ _ _ _ _ (by omega)
      (Fin.ext (by dsimp only; omega)) (Fin.ext (by dsimp only; omega)) (Fin.ext (by dsimp only; omega)) (Fin.ext (by dsimp only; omega)) rfl rfl rfl rfl
  case piece4 =>
    obtain ⟨u, w, rfl⟩ : ∃ (u w : Fin 128), x = ix2 u w := ⟨x 0, x 1, eq_ix2 x⟩
    have e0 : l.val = 128 + u.val := h0
    have e1 : j.val = 640 + w.val := h1
    refine (bot5 v106 v146 v500 (k0_pay23 v65 v81 v173) _ u w).trans ?_
    rw [base1_at v106 v146 v187 v65 v81 v173 b0 b1 (o := 128) (p := 128) u w (by omega) (by omega)]
    exact settle (duo v106 v146 v500 (k0_pay23 v65 v81 v173)) (fun r c => b1 (ix2 r c)) 5 w l _ _ j _ _ _ _ _ _ _ (by omega)
      (Fin.ext (by dsimp only; omega)) (Fin.ext (by dsimp only; omega)) (Fin.ext (by dsimp only; omega)) (Fin.ext (by dsimp only; omega)) rfl rfl rfl rfl
  case piece5 =>
    obtain ⟨u, w, rfl⟩ : ∃ (u w : Fin 128), x = ix2 u w := ⟨x 0, x 1, eq_ix2 x⟩
    have e0 : l.val = u.val := h0
    have e1 : j.val = 640 + w.val := h1
    refine (top5 v106 v146 v500 (k0_pay23 v65 v81 v173) _ u w).trans ?_
    rw [base1_at v106 v146 v187 v65 v81 v173 b0 b1 (o := 0) (p := 128) u w (by omega) (by omega)]
    exact settle (duo v106 v146 v500 (k0_pay23 v65 v81 v173)) (fun r c => b1 (ix2 r c)) 5 w l _ _ j _ _ _ _ _ _ _ (by omega)
      (Fin.ext (by dsimp only; omega)) (Fin.ext (by dsimp only; omega)) (Fin.ext (by dsimp only; omega)) (Fin.ext (by dsimp only; omega)) rfl rfl rfl rfl
  case piece6 =>
    obtain ⟨u, w, rfl⟩ : ∃ (u w : Fin 128), x = ix2 u w := ⟨x 0, x 1, eq_ix2 x⟩
    have e0 : l.val = 128 + u.val := h0
    have e1 : j.val = 512 + w.val := h1
    refine (bot4 v106 v146 v500 (k0_pay23 v65 v81 v173) _ u w).trans ?_
    rw [base1_at v106 v146 v187 v65 v81 v173 b0 b1 (o := 128) (p := 0) u w (by omega) (by omega)]
    exact settle (duo v106 v146 v500 (k0_pay23 v65 v81 v173)) (fun r c => b1 (ix2 r c)) 4 w l _ _ j _ _ _ _ _ _ _ (by omega)
      (Fin.ext (by dsimp only; omega)) (Fin.ext (by dsimp only; omega)) (Fin.ext (by dsimp only; omega)) (Fin.ext (by dsimp only; omega)) rfl rfl rfl rfl
  case piece7 =>
    obtain ⟨u, w, rfl⟩ : ∃ (u w : Fin 128), x = ix2 u w := ⟨x 0, x 1, eq_ix2 x⟩
    have e0 : l.val = u.val := h0
    have e1 : j.val = 512 + w.val := h1
    refine (top4 v106 v146 v500 (k0_pay23 v65 v81 v173) _ u w).trans ?_
    rw [base1_at v106 v146 v187 v65 v81 v173 b0 b1 (o := 0) (p := 0) u w (by omega) (by omega)]
    exact settle (duo v106 v146 v500 (k0_pay23 v65 v81 v173)) (fun r c => b1 (ix2 r c)) 4 w l _ _ j _ _ _ _ _ _ _ (by omega)
      (Fin.ext (by dsimp only; omega)) (Fin.ext (by dsimp only; omega)) (Fin.ext (by dsimp only; omega)) (Fin.ext (by dsimp only; omega)) rfl rfl rfl rfl

/-- Lanes of the first four pairs. -/
theorem ybuf_low (l : Fin 256) (j : Fin 1024) (hj : j.val < 512) : ybuf v106 v146 v187 v500 v65 v81 v173 b0 b1 (ix2 l j) =
    b0 (ix2 l ⟨j.val, hj⟩) +
      duo v106 v146 v187 (k0_pay23 v65 v81 v173) ⟨j.val / 64, by omega⟩ ⟨j.val / 64, by omega⟩ l j := by
  rw [ybuf_eq]
  have late : ∀ p ∈ pairs1 v106 v146 v187 v500 v65 v81 v173 b0 b1, (ix2 l j : S256x1024.Idx) ∉ p.1.set := by
    unfold pairs1
    simp only [List.forall_mem_cons, List.not_mem_nil, false_imp_iff, implies_true, and_true]
    simp only [S128x128, mem_block]
    omega
  have cover : ∃ p ∈ pairs0 v106 v146 v187 v65 v81 v173 b0, (ix2 l j : S256x1024.Idx) ∈ p.1.set := by
    unfold pairs0
    simp only [List.exists_mem_cons_iff, List.not_mem_nil, false_and, exists_false, or_false]
    simp only [S128x128, mem_block]
    omega
  rw [canon_skip _ _ _ late]
  unfold base1
  rw [View.canon_cons_of_not_mem _ _ (by simp only [S256x512, mem_block]; omega), canon_hit _ _ _ cover]
  unfold pairs0 at cover ⊢
  canon_tiles x h using cover
  case piece0 =>
    obtain ⟨u, w, rfl⟩ : ∃ (u w : Fin 128), x = ix2 u w := ⟨x 0, x 1, eq_ix2 x⟩
    have e0 : l.val = 128 + u.val := h0
    have e1 : j.val = 384 + w.val := h1
    refine (bot3 v106 v146 v187 (k0_pay23 v65 v81 v173) _ u w).trans ?_
    rw [base0_at b0 (o := 128) (p := 384) u w (by omega) (by omega)]
    exact settle (duo v106 v146 v187 (k0_pay23 v65 v81 v173)) (fun r c => b0 (ix2 r c)) 3 w l _ _ j _ _ _ _ _ _ _ (by omega)
      (Fin.ext (by dsimp only; omega)) (Fin.ext (by dsimp only; omega)) (Fin.ext (by dsimp only; omega)) (Fin.ext (by dsimp only; omega)) rfl rfl rfl rfl
  case piece1 =>
    obtain ⟨u, w, rfl⟩ : ∃ (u w : Fin 128), x = ix2 u w := ⟨x 0, x 1, eq_ix2 x⟩
    have e0 : l.val = u.val := h0
    have e1 : j.val = 384 + w.val := h1
    refine (top3 v106 v146 v187 (k0_pay23 v65 v81 v173) _ u w).trans ?_
    rw [base0_at b0 (o := 0) (p := 384) u w (by omega) (by omega)]
    exact settle (duo v106 v146 v187 (k0_pay23 v65 v81 v173)) (fun r c => b0 (ix2 r c)) 3 w l _ _ j _ _ _ _ _ _ _ (by omega)
      (Fin.ext (by dsimp only; omega)) (Fin.ext (by dsimp only; omega)) (Fin.ext (by dsimp only; omega)) (Fin.ext (by dsimp only; omega)) rfl rfl rfl rfl
  case piece2 =>
    obtain ⟨u, w, rfl⟩ : ∃ (u w : Fin 128), x = ix2 u w := ⟨x 0, x 1, eq_ix2 x⟩
    have e0 : l.val = 128 + u.val := h0
    have e1 : j.val = 256 + w.val := h1
    refine (bot2 v106 v146 v187 (k0_pay23 v65 v81 v173) _ u w).trans ?_
    rw [base0_at b0 (o := 128) (p := 256) u w (by omega) (by omega)]
    exact settle (duo v106 v146 v187 (k0_pay23 v65 v81 v173)) (fun r c => b0 (ix2 r c)) 2 w l _ _ j _ _ _ _ _ _ _ (by omega)
      (Fin.ext (by dsimp only; omega)) (Fin.ext (by dsimp only; omega)) (Fin.ext (by dsimp only; omega)) (Fin.ext (by dsimp only; omega)) rfl rfl rfl rfl
  case piece3 =>
    obtain ⟨u, w, rfl⟩ : ∃ (u w : Fin 128), x = ix2 u w := ⟨x 0, x 1, eq_ix2 x⟩
    have e0 : l.val = u.val := h0
    have e1 : j.val = 256 + w.val := h1
    refine (top2 v106 v146 v187 (k0_pay23 v65 v81 v173) _ u w).trans ?_
    rw [base0_at b0 (o := 0) (p := 256) u w (by omega) (by omega)]
    exact settle (duo v106 v146 v187 (k0_pay23 v65 v81 v173)) (fun r c => b0 (ix2 r c)) 2 w l _ _ j _ _ _ _ _ _ _ (by omega)
      (Fin.ext (by dsimp only; omega)) (Fin.ext (by dsimp only; omega)) (Fin.ext (by dsimp only; omega)) (Fin.ext (by dsimp only; omega)) rfl rfl rfl rfl
  case piece4 =>
    obtain ⟨u, w, rfl⟩ : ∃ (u w : Fin 128), x = ix2 u w := ⟨x 0, x 1, eq_ix2 x⟩
    have e0 : l.val = 128 + u.val := h0
    have e1 : j.val = 128 + w.val := h1
    refine (bot1 v106 v146 v187 (k0_pay23 v65 v81 v173) _ u w).trans ?_
    rw [base0_at b0 (o := 128) (p := 128) u w (by omega) (by omega)]
    exact settle (duo v106 v146 v187 (k0_pay23 v65 v81 v173)) (fun r c => b0 (ix2 r c)) 1 w l _ _ j _ _ _ _ _ _ _ (by omega)
      (Fin.ext (by dsimp only; omega)) (Fin.ext (by dsimp only; omega)) (Fin.ext (by dsimp only; omega)) (Fin.ext (by dsimp only; omega)) rfl rfl rfl rfl
  case piece5 =>
    obtain ⟨u, w, rfl⟩ : ∃ (u w : Fin 128), x = ix2 u w := ⟨x 0, x 1, eq_ix2 x⟩
    have e0 : l.val = u.val := h0
    have e1 : j.val = 128 + w.val := h1
    refine (top1 v106 v146 v187 (k0_pay23 v65 v81 v173) _ u w).trans ?_
    rw [base0_at b0 (o := 0) (p := 128) u w (by omega) (by omega)]
    exact settle (duo v106 v146 v187 (k0_pay23 v65 v81 v173)) (fun r c => b0 (ix2 r c)) 1 w l _ _ j _ _ _ _ _ _ _ (by omega)
      (Fin.ext (by dsimp only; omega)) (Fin.ext (by dsimp only; omega)) (Fin.ext (by dsimp only; omega)) (Fin.ext (by dsimp only; omega)) rfl rfl rfl rfl
  case piece6 =>
    obtain ⟨u, w, rfl⟩ : ∃ (u w : Fin 128), x = ix2 u w := ⟨x 0, x 1, eq_ix2 x⟩
    have e0 : l.val = 128 + u.val := h0
    have e1 : j.val = w.val := h1
    refine (bot0 v106 v146 v187 v65 v81 v173 _ u w).trans ?_
    rw [base0_at b0 (o := 128) (p := 0) u w (by omega) (by omega)]
    exact settle (duo v106 v146 v187 (k0_pay23 v65 v81 v173)) (fun r c => b0 (ix2 r c)) 0 w l _ _ j _ _ _ _ _ _ _ (by omega)
      (Fin.ext (by dsimp only; omega)) (Fin.ext (by dsimp only; omega)) (Fin.ext (by dsimp only; omega)) (Fin.ext (by dsimp only; omega)) rfl rfl rfl rfl
  case piece7 =>
    obtain ⟨u, w, rfl⟩ : ∃ (u w : Fin 128), x = ix2 u w := ⟨x 0, x 1, eq_ix2 x⟩
    have e0 : l.val = u.val := h0
    have e1 : j.val = w.val := h1
    refine (top0 v106 v146 v187 v65 v81 v173 _ u w).trans ?_
    rw [base0_at b0 (o := 0) (p := 0) u w (by omega) (by omega)]
    exact settle (duo v106 v146 v187 (k0_pay23 v65 v81 v173)) (fun r c => b0 (ix2 r c)) 0 w l _ _ j _ _ _ _ _ _ _ (by omega)
      (Fin.ext (by dsimp only; omega)) (Fin.ext (by dsimp only; omega)) (Fin.ext (by dsimp only; omega)) (Fin.ext (by dsimp only; omega)) rfl rfl rfl rfl

end Read

end Cert.SsdIdeal.Mixer
-- ==== Proof.Ssd.Steps.lean ====
module

public import proofs.«01_k».proof.Proof.Ssd.Buffer
public import proofs.«01_k».proof.Proof.Gen.SsdIdeal.Value
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.SsdIdeal.Mixer

open Cert.SsdIdeal Cert.SsdIdeal.Gen

variable (m : (ℓ : Loc nD τ sig) → Buf (Elt Ideal) ℓ)

set_option maxHeartbeats 2000000

/-! What the kernel carries from one chunk to the next: the last eight input rows, kept in front of
the chunk's own first eight rows for the convolution, and one state per group. -/

theorem top_rows (X : Vec Ideal S256x1536 .bf16) (l : Fin 8) (q : Fin 1536) :
    k0_pay6 (F := Ideal) X (ix2 l q) = X (ix2 ⟨l.val, by omega⟩ q) := by
  pointwise [k0_pay6, k0_pay4]

theorem last_rows (X : Vec Ideal S256x1536 .bf16) (l : Fin 8) (q : Fin 1536) :
    k0_pay7 (k0_pay4 (F := Ideal) X) (ix2 l q) = X (ix2 ⟨248 + l.val, by omega⟩ q) := by
  pointwise [k0_pay7, k0_pay4]

/-- A row of the sixteen, through the load that starts at row `k`. -/
theorem row_at {k : ℕ} {inb} (l : Fin 8) (q : Fin 1536) (hk : k ≤ 8) :
    (Rect.unit (s := S16x1536) ![k, 0] S8x1536.size inb).emb (ix2 l q) = ix2 ⟨k + l.val, by omega⟩ q := by
  funext i
  fin_cases i
  · apply Fin.ext; show k + 1 * l.val = k + l.val; omega
  · apply Fin.ext; show 0 + 1 * q.val = q.val; omega

/-- A row is among the last eight or not. -/
theorem mem_low {k : ℕ} (hk : k < 16) (q : Fin 1536) :
    (ix2 ⟨k, hk⟩ q : S16x1536.Idx) ∈ (Rect.unit (s := S16x1536) ![8, 0] S8x1536.size inb_S16x1536_S8x1536_8_0).set ↔ 8 ≤ k := by
  rw [Rect.mem_set_unit]
  constructor
  · intro h; exact (h 0).1
  · intro h a
    fin_cases a
    · exact ⟨h, show k < 8 + 8 by omega⟩
    · exact ⟨Nat.zero_le _, show q.val < 0 + 1536 by omega⟩

/-- The rows the convolution reads over a chunk's start: earlier rows first, then the chunk's own. -/
def heads (e : Fin 8 → Fin 1536 → EReal) (X : Vec Ideal S256x1536 .bf16) (k : ℕ) (hk : k ≤ 8) : Vec Ideal S8x1536 .f32 :=
  fun i => if h : k + (i 0).val < 8 then e ⟨k + (i 0).val, h⟩ (i 1)
    else X (ix2 ⟨k + (i 0).val - 8, by have : (i 0).val < 8 := (i 0).isLt; omega⟩ (i 1))

theorem heads_lt (e : Fin 8 → Fin 1536 → EReal) (X : Vec Ideal S256x1536 .bf16) (k : ℕ) (hk : k ≤ 8) (l : Fin 8) (q : Fin 1536)
    (h : k + l.val < 8) : heads e X k hk (ix2 l q) = e ⟨k + l.val, h⟩ q := dif_pos h

theorem heads_ge (e : Fin 8 → Fin 1536 → EReal) (X : Vec Ideal S256x1536 .bf16) (k : ℕ) (hk : k ≤ 8) (l : Fin 8) (q : Fin 1536)
    (h : ¬ k + l.val < 8) : heads e X k hk (ix2 l q) = X (ix2 ⟨k + l.val - 8, by omega⟩ q) := dif_neg h

/-- Reading them where earlier rows are carried. -/
theorem heads_carried (X : Vec Ideal S256x1536 .bf16) (xp : Vec Ideal S16x1536 .f32) (k : ℕ) (hk : k ≤ 8) {inb} :
    View.ld (View.read (Elt Ideal) (View.whole cc0_scratch0)
      ((View.whole cc0_scratch0).writes (Elt Ideal) ((Memref.isWhole_whole cc0_scratch0).unread xp)
        [⟨Rect.unit (s := S16x1536) ![8, 0] S8x1536.size inb_S16x1536_S8x1536_8_0, k0_pay6 X⟩]))
      (Rect.unit (s := S16x1536) ![k, 0] S8x1536.size inb) = heads (fun l q => xp (ix2 ⟨l.val, by omega⟩ q)) X k hk := by
  funext i
  obtain ⟨l, q, rfl⟩ : ∃ (l : Fin 8) (q : Fin 1536), i = ix2 l q := ⟨i 0, i 1, eq_ix2 i⟩
  show View.read _ _ _ ((Rect.unit (s := S16x1536) ![k, 0] S8x1536.size inb).emb (ix2 l q)) = _
  rw [row_at l q hk]
  by_cases h : k + l.val < 8
  · rw [View.read_writes_apply_of_forall_not_mem _ _ _ _ (by
      intro p hp
      rw [List.mem_singleton] at hp
      subst hp
      rw [mem_low]; omega), read_unread_whole]
    rw [heads_lt _ _ _ _ _ _ h]
  · have e : (ix2 ⟨k + l.val, by omega⟩ q : S16x1536.Idx) =
        (Rect.unit (s := S16x1536) ![8, 0] S8x1536.size inb_S16x1536_S8x1536_8_0).emb (ix2 ⟨k + l.val - 8, by omega⟩ q) := by
      rw [row_at _ q (by omega)]
      congr 1
      exact Fin.ext (by dsimp only; omega)
    rw [e, View.read_writes_cons_emb, top_rows]
    rw [heads_ge _ _ _ _ _ _ h]

/-- Reading them where the earlier rows are cleared. -/
theorem heads_cleared (X : Vec Ideal S256x1536 .bf16) (k : ℕ) (hk : k ≤ 8) {inb} :
    (View.whole cc0_scratch0).readCov
      [⟨Rect.unit (s := S16x1536) ![8, 0] S8x1536.size inb_S16x1536_S8x1536_8_0, k0_pay6 X⟩,
       ⟨Rect.unit (s := S16x1536) ![0, 0] S8x1536.size inb_S16x1536_S8x1536_0_0, k0_pay2 (F := Ideal)⟩]
      (Rect.unit (s := S16x1536) ![k, 0] S8x1536.size inb).toLoadRect = heads (fun _ _ => 0) X k hk := by
  rw [View.readCov_eq_canon']
  funext i
  obtain ⟨l, q, rfl⟩ : ∃ (l : Fin 8) (q : Fin 1536), i = ix2 l q := ⟨i 0, i 1, eq_ix2 i⟩
  show View.canon _ ((Rect.unit (s := S16x1536) ![k, 0] S8x1536.size inb).emb (ix2 l q)) = _
  rw [row_at l q hk]
  by_cases h : k + l.val < 8
  · rw [View.canon_cons_of_not_mem _ _ (by rw [mem_low]; omega)]
    have e : (ix2 ⟨k + l.val, by omega⟩ q : S16x1536.Idx) =
        (Rect.unit (s := S16x1536) ![0, 0] S8x1536.size inb_S16x1536_S8x1536_0_0).emb (ix2 ⟨k + l.val, h⟩ q) := by
      rw [row_at _ q (by omega)]
      congr 1
      exact Fin.ext (by dsimp only; omega)
    rw [e, View.canon_cons_emb]
    rw [heads_lt _ _ _ _ _ _ h]
    pointwise [k0_pay2]
  · have e : (ix2 ⟨k + l.val, by omega⟩ q : S16x1536.Idx) =
        (Rect.unit (s := S16x1536) ![8, 0] S8x1536.size inb_S16x1536_S8x1536_8_0).emb (ix2 ⟨k + l.val - 8, by omega⟩ q) := by
      rw [row_at _ q (by omega)]
      congr 1
      exact Fin.ext (by dsimp only; omega)
    rw [e, View.canon_cons_emb, top_rows]
    rw [heads_ge _ _ _ _ _ _ h]

/-- One group of a pair of states. -/
def half (S : Vec Ideal S2x128x512 .f32) (g : Fin 2) : Vec Ideal S1x128x512 .f32 := fun i => S (ix3 g (i 1) (i 2))

theorem half_ld (S : Vec Ideal S2x128x512 .f32) {p : ℕ} {inb} (hp : p < 2) :
    View.ld S (Rect.unit (s := S2x128x512) ![p, 0, 0] S1x128x512.size inb) = half S ⟨p, hp⟩ := by
  funext i
  show S _ = S _
  congr 1
  funext k
  fin_cases k
  · apply Fin.ext; show p + 1 * (i 0).val = p; have : (i 0).val < 1 := (i 0).isLt; omega
  · apply Fin.ext; show 0 + 1 * (i 1).val = (i 1).val; omega
  · apply Fin.ext; show 0 + 1 * (i 2).val = (i 2).val; omega

/-- The eight input rows before chunk `t`: none at a sequence's start. -/
def before (c : Dev nD) (t : Fin cfg0.N) (l : Fin 8) (q : Fin 1536) : EReal :=
  if t.val % 16 = 0 then 0 else
    iblk m c 1 ⟨t.val - 1, lt_of_le_of_lt (Nat.sub_le _ _) t.isLt⟩ (ix2 (⟨248 + l.val, by omega⟩ : Fin 256) q)

/-- The states before chunk `t`: zero at a sequence's start. -/
def prior (c : Dev nD) (t : Fin cfg0.N) : Vec Ideal S2x128x512 .f32 :=
  if t.val % 16 = 0 then fun _ => 0 else (outsAt0 m c (t.val - 1) (lt_of_le_of_lt (Nat.sub_le _ _) t.isLt)).2.2

theorem carried_rows (c : Dev nD) (t : Fin cfg0.N) (l : Fin 8) (q : Fin 1536) :
    (outsAt0 m c t.val t.isLt).2.1 (ix2 ⟨l.val, by omega⟩ q) = iblk m c 1 t (ix2 ⟨248 + l.val, by omega⟩ q) := by
  have e : (ix2 ⟨l.val, by omega⟩ q : S16x1536.Idx) =
      (Rect.unit (s := S16x1536) ![0, 0] S8x1536.size inb_S16x1536_S8x1536_0_0).emb (ix2 l q) := by
    rw [row_at l q (by omega)]
    congr 1
    exact Fin.ext (by dsimp only; omega)
  by_cases h : t.val % 16 = 0
  · rw [outsAt0_A m c t h]; dsimp only; frame_open
    simp (disch := decide) only [↓ View.readCov_skip, ↓ View.readCov_cons_toLoadRect, ↓ View.readCov_fill]
    frame_out
    rw [e]
    exact (View.canon_cons_emb _ _ _ _).trans (last_rows _ _ _)
  · rw [outsAt0_B m c t h]; dsimp only; frame_open
    simp (disch := decide) only [↓ View.readCov_skip, ↓ View.readCov_cons_toLoadRect, ↓ View.readCov_fill]
    frame_out
    rw [e]
    exact (View.canon_cons_emb _ _ _ _).trans (last_rows _ _ _)

theorem before_start (c : Dev nD) (t : Fin cfg0.N) (h : t.val % 16 = 0) : before m c t = fun _ _ => 0 := by
  funext l q; exact if_pos h

theorem before_later (c : Dev nD) (t : Fin cfg0.N) (h : ¬ t.val % 16 = 0) : before m c t = fun l q =>
    (outsAt0 m c (t.val - 1) (lt_of_le_of_lt (Nat.sub_le _ _) t.isLt)).2.1 (ix2 ⟨l.val, by omega⟩ q) := by
  funext l q
  rw [carried_rows m c ⟨t.val - 1, lt_of_le_of_lt (Nat.sub_le _ _) t.isLt⟩ l q]
  exact if_neg h

theorem prior_start (c : Dev nD) (t : Fin cfg0.N) (h : t.val % 16 = 0) : prior m c t = k0_pay3 (F := Ideal) := by
  refine (if_pos h).trans ?_
  funext i
  obtain ⟨a, b, d, rfl⟩ : ∃ (a : Fin 2) (b : Fin 128) (d : Fin 512), i = ix3 a b d := ⟨i 0, i 1, i 2, eq_ix3 i⟩
  symm
  pointwise [k0_pay3]

theorem prior_later (c : Dev nD) (t : Fin cfg0.N) (h : ¬ t.val % 16 = 0) : prior m c t =
    (outsAt0 m c (t.val - 1) (lt_of_le_of_lt (Nat.sub_le _ _) t.isLt)).2.2 := if_neg h

/-- The block stored at chunk `t`. -/
theorem out_step (c : Dev nD) (t : Fin cfg0.N) : (outsAt0 m c t.val t.isLt).1 = outP (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t)
      (iblk m c 12 t) (iblk m c 13 t)
      (heads (before m c t) (iblk m c 1 t) 5 (by omega)) (heads (before m c t) (iblk m c 1 t) 6 (by omega))
      (heads (before m c t) (iblk m c 1 t) 7 (by omega)) (half (prior m c t) 0) (half (prior m c t) 1) := by
  have key : ∃ a0 a1 a2 s0 s1, (outsAt0 m c t.val t.isLt).1 = outP (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t)
      (iblk m c 12 t) (iblk m c 13 t) a0 a1 a2 s0 s1 ∧
      a0 = heads (before m c t) (iblk m c 1 t) 5 (by omega) ∧ a1 = heads (before m c t) (iblk m c 1 t) 6 (by omega) ∧
      a2 = heads (before m c t) (iblk m c 1 t) 7 (by omega) ∧ s0 = half (prior m c t) 0 ∧ s1 = half (prior m c t) 1 := by
    by_cases h : t.val % 16 = 0
    · rw [before_start m c t h, prior_start m c t h, outsAt0_A m c t h]; dsimp only; frame_open
      simp (disch := decide) only [↓ View.readCov_skip, ↓ View.readCov_cons_toLoadRect, ↓ View.readCov_fill]
      frame_out
      exact ⟨_, _, _, _, _, rfl, heads_cleared _ _ _, heads_cleared _ _ _, heads_cleared _ _ _,
        half_ld _ (by omega), half_ld _ (by omega)⟩
    · rw [before_later m c t h, prior_later m c t h, outsAt0_B m c t h]; dsimp only; frame_open
      simp (disch := decide) only [↓ View.readCov_skip, ↓ View.readCov_cons_toLoadRect, ↓ View.readCov_fill]
      frame_out
      exact ⟨_, _, _, _, _, rfl, heads_carried _ _ _ _, heads_carried _ _ _ _, heads_carried _ _ _ _,
        (congrArg (fun S => View.ld S _) (read_unread_whole _ _ _)).trans (half_ld _ (by omega)),
        (congrArg (fun S => View.ld S _) (read_unread_whole _ _ _)).trans (half_ld _ (by omega))⟩
  obtain ⟨_, _, _, _, _, e, rfl, rfl, rfl, rfl, rfl⟩ := key
  exact e

/-- The states left by chunk `t`. -/
theorem state_step (c : Dev nD) (t : Fin cfg0.N) : ∃ T, (outsAt0 m c t.val t.isLt).2.2 = View.canon
    ((⟨Rect.unit (s := S2x128x512) ![1, 0, 0] S1x128x512.size inb_S2x128x512_S1x128x512_1_0_0, highP (iblk m c 1 t) (iblk m c 2 t) (iblk m c 4 t) (iblk m c 5 t) (iblk m c 6 t) (iblk m c 8 t)
      (iblk m c 12 t) (iblk m c 13 t)
      (heads (before m c t) (iblk m c 1 t) 5 (by omega)) (heads (before m c t) (iblk m c 1 t) 6 (by omega))
      (heads (before m c t) (iblk m c 1 t) 7 (by omega)) (half (prior m c t) 1)⟩ : View.Piece (Elt Ideal) S2x128x512 .f32) ::
     ⟨Rect.unit (s := S2x128x512) ![0, 0, 0] S1x128x512.size inb_S2x128x512_S1x128x512_0_0_0, lowP (iblk m c 1 t) (iblk m c 2 t) (iblk m c 4 t) (iblk m c 5 t) (iblk m c 6 t) (iblk m c 8 t)
      (iblk m c 12 t) (iblk m c 13 t)
      (heads (before m c t) (iblk m c 1 t) 5 (by omega)) (heads (before m c t) (iblk m c 1 t) 6 (by omega))
      (heads (before m c t) (iblk m c 1 t) 7 (by omega)) (half (prior m c t) 0)⟩ :: T) := by
  have key : ∃ a0 a1 a2 s0 s1 T, (outsAt0 m c t.val t.isLt).2.2 = View.canon
      ((⟨Rect.unit (s := S2x128x512) ![1, 0, 0] S1x128x512.size inb_S2x128x512_S1x128x512_1_0_0, highP (iblk m c 1 t) (iblk m c 2 t) (iblk m c 4 t) (iblk m c 5 t) (iblk m c 6 t) (iblk m c 8 t)
      (iblk m c 12 t) (iblk m c 13 t) a0 a1 a2 s1⟩ :
        View.Piece (Elt Ideal) S2x128x512 .f32) ::
       ⟨Rect.unit (s := S2x128x512) ![0, 0, 0] S1x128x512.size inb_S2x128x512_S1x128x512_0_0_0, lowP (iblk m c 1 t) (iblk m c 2 t) (iblk m c 4 t) (iblk m c 5 t) (iblk m c 6 t) (iblk m c 8 t)
      (iblk m c 12 t) (iblk m c 13 t) a0 a1 a2 s0⟩ :: T) ∧
      a0 = heads (before m c t) (iblk m c 1 t) 5 (by omega) ∧ a1 = heads (before m c t) (iblk m c 1 t) 6 (by omega) ∧
      a2 = heads (before m c t) (iblk m c 1 t) 7 (by omega) ∧ s0 = half (prior m c t) 0 ∧ s1 = half (prior m c t) 1 := by
    by_cases h : t.val % 16 = 0
    · rw [before_start m c t h, prior_start m c t h, outsAt0_A m c t h]; dsimp only; frame_open
      simp (disch := decide) only [↓ View.readCov_skip, ↓ View.readCov_cons_toLoadRect, ↓ View.readCov_fill]
      frame_out
      exact ⟨_, _, _, _, _, _, rfl, heads_cleared _ _ _, heads_cleared _ _ _, heads_cleared _ _ _,
        half_ld _ (by omega), half_ld _ (by omega)⟩
    · rw [before_later m c t h, prior_later m c t h, outsAt0_B m c t h]; dsimp only; frame_open
      simp (disch := decide) only [↓ View.readCov_skip, ↓ View.readCov_cons_toLoadRect, ↓ View.readCov_fill]
      frame_out
      exact ⟨_, _, _, _, _, _, rfl, heads_carried _ _ _ _, heads_carried _ _ _ _, heads_carried _ _ _ _,
        (congrArg (fun S => View.ld S _) (read_unread_whole _ _ _)).trans (half_ld _ (by omega)),
        (congrArg (fun S => View.ld S _) (read_unread_whole _ _ _)).trans (half_ld _ (by omega))⟩
  obtain ⟨_, _, _, _, _, T, e, rfl, rfl, rfl, rfl, rfl⟩ := key
  exact ⟨T, e⟩

end Cert.SsdIdeal.Mixer
-- ==== Proof.Ssd.Point.lean ====
module

public import proofs.«01_k».proof.Proof.Ssd.Steps
public import proofs.«01_k».proof.Proof.Ssd.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.SsdIdeal.Mixer

open Cert.SsdIdeal Cert.SsdIdeal.Gen

/-! One chunk: what the point stores, given what its blocks and the carried arrays hold. -/

section Point
variable (Z : Vec Ideal S256x1024 .bf16) (X : Vec Ideal S256x1536 .bf16) (D : Vec Ideal S256x128 .f32)
  (DT : Vec Ideal S1x16x256 .f32) (cw : Vec Ideal S4x1536 .f32) (cb : Vec Ideal S1x1536 .f32)
  (db : Vec Ideal S1x128 .f32) (dbT : Vec Ideal S16x1 .f32) (al : Vec Ideal S1x128 .f32) (alT : Vec Ideal S16x1 .f32)
  (dk ng : Vec Ideal S1x1024 .f32) (E : Vec Ideal S256x1024 .bf16) (sh : Vec Ideal S768x256 .bf16)
  (e : Fin 8 → Fin 1536 → EReal) (S : Vec Ideal S2x128x512 .f32)
  (A : Args) (t : ℕ)

/-- What the blocks of chunk `t` and the carried arrays hold. -/
structure Holds : Prop where
  ht : t < 128
  hZ : ∀ l j, Z (ix2 l j) = A.z (row t l) j
  hX : ∀ l q, X (ix2 l q) = A.x (row t l) q
  hD : ∀ l (h : Fin 16), D (ix2 l ⟨h.val, by omega⟩) = A.d (row t l) h
  hDT : ∀ l (h : Fin 16), DT (ix3 0 h l) = A.d (row t l) h
  hcw : ∀ k q, cw (ix2 k q) = A.cw k q
  hcb : ∀ q, cb (ix2 0 q) = A.cb q
  hdb : ∀ h : Fin 16, db (ix2 0 ⟨h.val, by omega⟩) = A.db h
  hdbT : ∀ h, dbT (ix2 h 0) = A.db h
  hal : ∀ h : Fin 16, al (ix2 0 ⟨h.val, by omega⟩) = A.al h
  halT : ∀ h, alT (ix2 h 0) = A.al h
  hdk : ∀ j, dk (ix2 0 j) = A.dk (head j)
  hng : ∀ j, ng (ix2 0 j) = A.ng j
  hE : ∀ (q : Fin 256) (j : Fin 1024), E (ix2 q j) = if q.val % 128 = j.val / 64 then 1 else 0
  hsh : ∀ (a : Fin 768) (x : Fin 256), sh (ix2 a x) = if x.val + 3 = a.val % 256 + a.val / 256 then 1 else 0
  he : ∀ l q, e l q = if t % 16 = 0 then 0 else A.x (row (t - 1) ⟨248 + l.val, by omega⟩) q
  hS : ∀ g n j, S (ix3 g n j) = prev A t n ⟨512 * g.val + j.val, by omega⟩

variable (H : Holds Z X D DT cw cb db dbT al alT dk ng E sh e S A t) (R : Steps A)

/-- The five terms of the convolution, in the order written. -/
theorem gather {c c' w0 w0' w1 w1' w2 w2' w3 w3' p0 p0' p1 p1' p2 p2' p3 p3' : EReal} (hc : c = c') (h0 : w0 = w0') (h1 : w1 = w1')
    (h2 : w2 = w2') (h3 : w3 = w3') (k0 : p0 = p0') (k1 : p1 = p1') (k2 : p2 = p2') (k3 : p3 = p3') :
    c + w0 * p0 + w1 * p1 + w2 * p2 + w3 * p3 = c' + w0' * p0' + w1' * p1' + w2' * p2' + w3' * p3' := by
  subst_vars; rfl

/-- And with the row itself first. -/
theorem gather_row {c c' w0 w0' w1 w1' w2 w2' w3 w3' p0 p0' p1 p1' p2 p2' p3 p3' : EReal} (hc : c = c') (h0 : w0 = w0') (h1 : w1 = w1')
    (h2 : w2 = w2') (h3 : w3 = w3') (k0 : p0 = p0') (k1 : p1 = p1') (k2 : p2 = p2') (k3 : p3 = p3') :
    c + w3 * p3 + w0 * p0 + w1 * p1 + w2 * p2 = c' + w0' * p0' + w1' * p1' + w2' * p2' + w3' * p3' := by
  subst_vars; abel

include H in
/-- The shift matrix picks an earlier row of the chunk. -/
theorem shifted (k : ℕ) (hk : k < 3) (l : Fin 256) (hl : 8 ≤ l.val) (q : Fin 1536) :
    (∑ x : Fin 256, sh (ix2 ⟨256 * k + l.val, by omega⟩ x) * X (ix2 x q)) = tap A (row t l) k q := by
  have hr := row_val t l H.ht
  have ht := H.ht
  rw [Finset.sum_eq_single (⟨l.val + k - 3, by omega⟩ : Fin 256)]
  · rw [H.hsh, if_pos (by dsimp only; omega), one_mul, H.hX]
    unfold tap
    rw [dif_pos (by omega)]
    congr 1
    apply Fin.ext
    rw [row_val _ _ H.ht]
    dsimp only
    omega
  · intro x _ hx
    rw [H.hsh, if_neg, zero_mul]
    intro h
    refine hx (Fin.ext ?_)
    dsimp only at h ⊢
    omega
  · intro h; exact absurd (Finset.mem_univ _) h

include H in
/-- The carried rows in front of the chunk's first eight. -/
theorem headed (k : ℕ) (hk : k < 3) (l : Fin 8) (q : Fin 1536) :
    heads e X (5 + k) (by omega) (ix2 l q) = tap A (row t ⟨l.val, by omega⟩) k q := by
  have hr := row_val t ⟨l.val, by omega⟩ H.ht
  have ht := H.ht
  dsimp only at hr
  unfold tap
  by_cases h : 5 + k + l.val < 8
  · rw [heads_lt _ _ _ _ _ _ h, H.he]
    by_cases h0 : t % 16 = 0
    · rw [if_pos h0, dif_neg (by omega)]
    · rw [if_neg h0, dif_pos (by omega)]
      congr 1
      apply Fin.ext
      rw [row_val _ _ (by omega)]
      dsimp only
      omega
  · rw [heads_ge _ _ _ _ _ _ h, H.hX, dif_pos (by omega)]
    congr 1
    apply Fin.ext
    rw [row_val _ _ H.ht]
    dsimp only
    omega

include H in
theorem tap_three (l : Fin 256) (q : Fin 1536) : tap A (row t l) 3 q = X (ix2 l q) := by
  unfold tap
  rw [dif_pos (by omega), H.hX]
  congr 1

include H in
/-- The activated convolution of the chunk. -/
theorem act_point (l : Fin 256) (q : Fin 1536) :
    actP X cw cb sh (heads e X 5 (by omega)) (heads e X 6 (by omega)) (heads e X 7 (by omega)) (ix2 l q) = act A (row t l) q := by
  have key : ∀ u : EReal, u = conv A (row t l) q → u * Ideal.logistic u = act A (row t l) q := by
    rintro _ rfl; rfl
  unfold actP
  pointwise [k0_pay8]
  by_cases h : l.val < 8
  · simp only [if_pos h, dif_pos h]
    exact key _ (gather (H.hcb q) (H.hcw 0 q) (H.hcw 1 q) (H.hcw 2 q) (H.hcw 3 q)
      (headed _ _ _ _ _ _ _ _ _ _ _ _ _ _ _ _ _ _ H 0 (by omega) ⟨l.val, h⟩ q)
      (headed _ _ _ _ _ _ _ _ _ _ _ _ _ _ _ _ _ _ H 1 (by omega) ⟨l.val, h⟩ q)
      (headed _ _ _ _ _ _ _ _ _ _ _ _ _ _ _ _ _ _ H 2 (by omega) ⟨l.val, h⟩ q)
      ((top_rows X ⟨l.val, h⟩ q).trans (tap_three _ _ _ _ _ _ _ _ _ _ _ _ _ _ _ _ _ _ H l q).symm))
  · simp only [if_neg h, dif_neg h]
    have el : ∀ p, (⟨8 + (l.val - 8), p⟩ : Fin 256) = l := fun p => Fin.ext (by dsimp only; omega)
    have ea : ∀ p, accP X cw cb sh (ix2 ⟨8 + (l.val - 8), p⟩ q) = conv A (row t l) q := by
      intro p
      rw [el]
      unfold accP
      pointwise [k0_pay5, k0_pay4]
      exact gather_row (H.hcb q) (H.hcw 0 q) (H.hcw 1 q) (H.hcw 2 q) (H.hcw 3 q)
        ((Finset.sum_congr rfl fun x _ => congrArg (fun a => sh (ix2 a x) * X (ix2 x q)) (Fin.ext (by first | rfl | (dsimp only; omega)))).trans
          (shifted _ _ _ _ _ _ _ _ _ _ _ _ _ _ _ _ _ _ H 0 (by omega) l (by omega) q))
        ((Finset.sum_congr rfl fun x _ => congrArg (fun a => sh (ix2 a x) * X (ix2 x q)) (Fin.ext (by first | rfl | (dsimp only; omega)))).trans
          (shifted _ _ _ _ _ _ _ _ _ _ _ _ _ _ _ _ _ _ H 1 (by omega) l (by omega) q))
        ((Finset.sum_congr rfl fun x _ => congrArg (fun a => sh (ix2 a x) * X (ix2 x q)) (Fin.ext (by first | rfl | (dsimp only; omega)))).trans
          (shifted _ _ _ _ _ _ _ _ _ _ _ _ _ _ _ _ _ _ H 2 (by omega) l (by omega) q))
        (tap_three _ _ _ _ _ _ _ _ _ _ _ _ _ _ _ _ _ _ H l q).symm
    exact key _ (ea _)

include H in
/-- Its value lanes. -/
theorem val_point (l : Fin 256) (j : Fin 1024) :
    valP X cw cb sh (heads e X 5 (by omega)) (heads e X 6 (by omega)) (heads e X 7 (by omega)) (ix2 l j) = val A (row t l) j := by
  refine Eq.trans ?_ (act_point _ _ _ _ _ _ _ _ _ _ _ _ _ _ _ _ _ _ H l ⟨j.val, by omega⟩)
  unfold valP actP
  pointwise [k0_pay9]

include H in
/-- Its key lanes. -/
theorem key_point (l : Fin 256) (g : Fin 2) (n : Fin 128) (o : Fin 1536) (ho : o.val = 1024 + 128 * g.val + n.val) :
    actP X cw cb sh (heads e X 5 (by omega)) (heads e X 6 (by omega)) (heads e X 7 (by omega)) (ix2 l o) = key A (row t l) g n := by
  rw [act_point _ _ _ _ _ _ _ _ _ _ _ _ _ _ _ _ _ _ H]
  exact congrArg (act A (row t l)) (Fin.ext ho)

include H in
/-- Its query lanes. -/
theorem qry_point (l : Fin 256) (g : Fin 2) (n : Fin 128) (o : Fin 1536) (ho : o.val = 1280 + 128 * g.val + n.val) :
    actP X cw cb sh (heads e X 5 (by omega)) (heads e X 6 (by omega)) (heads e X 7 (by omega)) (ix2 l o) = qry A (row t l) g n := by
  rw [act_point _ _ _ _ _ _ _ _ _ _ _ _ _ _ _ _ _ _ H]
  exact congrArg (act A (row t l)) (Fin.ext ho)

include H in
/-- The step sizes. -/
theorem step_point (l : Fin 256) (h : Fin 16) (o : Fin 128) (ho : o.val = h.val) :
    stepP D db (ix2 l o) = dts A (row t l) h := by
  have eo : (⟨h.val, by omega⟩ : Fin 128) = o := Fin.ext ho.symm
  unfold stepP dts
  rw [← H.hD l h, ← H.hdb h, eo]
  pointwise [k0_pay12, k0_pay11, soft]

include H R in
/-- The running sums. -/
theorem cum_point (l : Fin 256) (h : Fin 16) (o : Fin 128) (ho : o.val = h.val) :
    cumP D db al (ix2 l o) = (((Real.log 2)⁻¹ * cumR A R t l h : ℝ) : EReal) := by
  rw [← cum_two]
  unfold cumP
  refine rows_cum _ _ _ l o (fun s => R.δ (row t s) h * (-((Real.log 2)⁻¹) * R.ε h)) fun s => ?_
  rw [← step_two, ← step_point _ _ _ _ _ _ _ _ _ _ _ _ _ _ _ _ _ _ H s h o ho, ← H.hal h,
    show (⟨h.val, by omega⟩ : Fin 128) = o from Fin.ext ho.symm]
  rfl

include H R in
/-- The running sums by columns. -/
theorem cumT_point (l : Fin 256) (h : Fin 16) :
    cumTP DT dbT alT (ix2 h l) = (((Real.log 2)⁻¹ * cumR A R t l h : ℝ) : EReal) := by
  rw [← cum_two]
  unfold cumTP
  refine cols_cum _ _ _ l h (fun s => R.δ (row t s) h * (-((Real.log 2)⁻¹) * R.ε h)) fun s => ?_
  rw [← step_two, H.hDT, H.hdbT, H.halT]
  rfl

include H R in
/-- The decay from the chunk's start, over lanes. -/
theorem decay_point (l : Fin 256) (j : Fin 1024) :
    k0_pay19 (cumP D db al) E (ix2 l j) = Ideal.exp (cum A t l (head j)) := by
  rw [start_decay E H.hE (cumP D db al) l j _ (cum_point _ _ _ _ _ _ _ _ _ _ _ _ _ _ _ _ _ _ H R l (head j) _ rfl), exp_two']

include H R in
/-- The values times their step sizes. -/
theorem stepped_point (l : Fin 256) (j : Fin 1024) :
    k0_pay23 (valP X cw cb sh (heads e X 5 (by omega)) (heads e X 6 (by omega)) (heads e X 7 (by omega))) (stepP D db) E (ix2 l j) =
      val A (row t l) j * dts A (row t l) (head j) := by
  have h : stepP D db (ix2 l ⟨j.val / 64, by omega⟩) = (R.δ (row t l) (head j) : EReal) := by
    rw [step_point _ _ _ _ _ _ _ _ _ _ _ _ _ _ _ _ _ _ H l (head j) _ rfl, R.hδ]
  rw [R.hδ, ← val_point _ _ _ _ _ _ _ _ _ _ _ _ _ _ _ _ _ _ H]
  refine Eq.trans ?_ (stepped E H.hE (valP X cw cb sh (heads e X 5 (by omega)) (heads e X 6 (by omega)) (heads e X 7 (by omega)))
    (stepP D db) l j _ h)
  pointwise [k0_pay23]

include H R in
/-- And decayed to the chunk's end. -/
theorem ended_point (l : Fin 256) (j : Fin 1024) :
    k0_pay22 (valP X cw cb sh (heads e X 5 (by omega)) (heads e X 6 (by omega)) (heads e X 7 (by omega))) (stepP D db)
      (k0_pay20 (cumP D db al)) E E (ix2 l j) =
      val A (row t l) j * dts A (row t l) (head j) * Ideal.exp (cum A t 255 (head j) - cum A t l (head j)) := by
  have h : stepP D db (ix2 l ⟨j.val / 64, by omega⟩) = (R.δ (row t l) (head j) : EReal) := by
    rw [step_point _ _ _ _ _ _ _ _ _ _ _ _ _ _ _ _ _ _ H l (head j) _ rfl, R.hδ]
  rw [end_decay E H.hE _ _ _ l j _ _ _ h (cum_point _ _ _ _ _ _ _ _ _ _ _ _ _ _ _ _ _ _ H R 255 (head j) _ rfl)
    (cum_point _ _ _ _ _ _ _ _ _ _ _ _ _ _ _ _ _ _ H R l (head j) _ rfl), exp_two,
    val_point _ _ _ _ _ _ _ _ _ _ _ _ _ _ _ _ _ _ H, R.hδ]

include H R in
/-- The contribution of a lane's head. -/
theorem duo_point (V : FVec Ideal S256x256 .f32) (l : Fin 256) (j : Fin 1024)
    (hV : ∀ s, V (ix2 l s) = ∑ n : Fin 128, qry A (row t l) (grp j) n * key A (row t s) (grp j) n) :
    duo (cumP D db al) (cumTP DT dbT alT) V
      (k0_pay23 (valP X cw cb sh (heads e X 5 (by omega)) (heads e X 6 (by omega)) (heads e X 7 (by omega))) (stepP D db) E)
      ⟨j.val / 64, by omega⟩ ⟨j.val / 64, by omega⟩ l j = diag A t l j := by
  unfold duo diag
  refine Finset.sum_congr rfl fun s _ => ?_
  rw [hV, stepped_point _ _ _ _ _ _ _ _ _ _ _ _ _ _ _ _ _ _ H R,
    cum_point _ _ _ _ _ _ _ _ _ _ _ _ _ _ _ _ _ _ H R l (head j) _ rfl,
    show cumTP DT dbT alT (ix2 ⟨j.val / 64, by omega⟩ s) = _ from cumT_point _ _ _ _ _ _ _ _ _ _ _ _ _ _ _ _ _ _ H R s (head j)]
  congr 2
  split_ifs
  · rw [← EReal.coe_sub, Ideal.exp2_coe, exp_two]
  · exact Ideal.exp2_bot

theorem half_at (g : Fin 2) (n : Fin 128) (j : Fin 512) : half S g (ix3 0 n j) = S (ix3 g n j) := rfl

include H R in
/-- The stored part of the first half. -/
theorem low_point (l : Fin 256) (j : Fin 1024) (hj : j.val < 512) :
    k0_pay29 (actP X cw cb sh (heads e X 5 (by omega)) (heads e X 6 (by omega)) (heads e X 7 (by omega)))
      (valP X cw cb sh (heads e X 5 (by omega)) (heads e X 6 (by omega)) (heads e X 7 (by omega)))
      (k0_pay19 (cumP D db al) E) (half S 0)
      (View.ld dk (Rect.unit (s := S1x1024) ![0, 0] S1x512.size inb_S1x1024_S1x512_0_0)) (ix2 l ⟨j.val, hj⟩) =
      off A t l j + val A (row t l) j * A.dk (head j) := by
  unfold off
  rw [← val_point _ _ _ _ _ _ _ _ _ _ _ _ _ _ _ _ _ _ H, ← H.hdk, ← decay_point _ _ _ _ _ _ _ _ _ _ _ _ _ _ _ _ _ _ H R]
  pointwise [k0_pay29, k0_pay26, k0_pay28]
  refine congrArg₂ (· + ·) (congrArg (· * k0_pay19 (cumP D db al) E (ix2 l j)) (Finset.sum_congr rfl fun n _ => ?_)) rfl
  refine congrArg₂ (· * ·) (qry_point _ _ _ _ _ _ _ _ _ _ _ _ _ _ _ _ _ _ H l (grp j) n _ ?_) ((H.hS 0 n ⟨j.val, hj⟩).trans ?_)
  · show 1280 + n.val = 1280 + 128 * (j.val / 512) + n.val
    omega
  · exact congrArg (prev A t n) (Fin.ext (by show 512 * 0 + j.val = j.val; omega))

include H R in
/-- The stored part of the second half. -/
theorem high_point (l : Fin 256) (j : Fin 1024) (hj : 512 ≤ j.val) :
    k0_pay77 (actP X cw cb sh (heads e X 5 (by omega)) (heads e X 6 (by omega)) (heads e X 7 (by omega)))
      (valP X cw cb sh (heads e X 5 (by omega)) (heads e X 6 (by omega)) (heads e X 7 (by omega)))
      (k0_pay19 (cumP D db al) E) (half S 1)
      (View.ld dk (Rect.unit (s := S1x1024) ![0, 512] S1x512.size inb_S1x1024_S1x512_0_512)) (ix2 l ⟨j.val - 512, by omega⟩) =
      off A t l j + val A (row t l) j * A.dk (head j) := by
  have ej : ∀ p, (⟨512 + (j.val - 512), p⟩ : Fin 1024) = j := fun p => Fin.ext (by dsimp only; omega)
  unfold off
  rw [← val_point _ _ _ _ _ _ _ _ _ _ _ _ _ _ _ _ _ _ H, ← H.hdk, ← decay_point _ _ _ _ _ _ _ _ _ _ _ _ _ _ _ _ _ _ H R]
  pointwise [k0_pay77, k0_pay74, k0_pay76]
  simp only [ej]
  refine congrArg₂ (· + ·) (congrArg (· * k0_pay19 (cumP D db al) E (ix2 l j)) (Finset.sum_congr rfl fun n _ => ?_)) rfl
  refine congrArg₂ (· * ·) (qry_point _ _ _ _ _ _ _ _ _ _ _ _ _ _ _ _ _ _ H l (grp j) n _ ?_)
    ((H.hS 1 n ⟨j.val - 512, by omega⟩).trans ?_)
  · show 1408 + n.val = 1280 + 128 * (j.val / 512) + n.val
    omega
  · exact congrArg (prev A t n) (Fin.ext (by show 512 * 1 + (j.val - 512) = j.val; omega))

include H in
/-- The scores of the first group. -/
theorem scores_low (l s : Fin 256) (j : Fin 1024) (hj : j.val < 512) :
    k0_pay27 (actP X cw cb sh (heads e X 5 (by omega)) (heads e X 6 (by omega)) (heads e X 7 (by omega))) (ix2 l s) =
      ∑ n : Fin 128, qry A (row t l) (grp j) n * key A (row t s) (grp j) n := by
  pointwise [k0_pay27, k0_pay25, k0_pay26]
  refine Finset.sum_congr rfl fun n _ => congrArg₂ (· * ·)
    (qry_point _ _ _ _ _ _ _ _ _ _ _ _ _ _ _ _ _ _ H l (grp j) n _ ?_) (key_point _ _ _ _ _ _ _ _ _ _ _ _ _ _ _ _ _ _ H s (grp j) n _ ?_)
  · show 1280 + n.val = 1280 + 128 * (j.val / 512) + n.val
    omega
  · show 1024 + n.val = 1024 + 128 * (j.val / 512) + n.val
    omega

include H in
/-- The scores of the second group. -/
theorem scores_high (l s : Fin 256) (j : Fin 1024) (hj : 512 ≤ j.val) :
    k0_pay75 (actP X cw cb sh (heads e X 5 (by omega)) (heads e X 6 (by omega)) (heads e X 7 (by omega))) (ix2 l s) =
      ∑ n : Fin 128, qry A (row t l) (grp j) n * key A (row t s) (grp j) n := by
  pointwise [k0_pay75, k0_pay73, k0_pay74]
  refine Finset.sum_congr rfl fun n _ => congrArg₂ (· * ·)
    (qry_point _ _ _ _ _ _ _ _ _ _ _ _ _ _ _ _ _ _ H l (grp j) n _ ?_) (key_point _ _ _ _ _ _ _ _ _ _ _ _ _ _ _ _ _ _ H s (grp j) n _ ?_)
  · show 1408 + n.val = 1280 + 128 * (j.val / 512) + n.val
    omega
  · show 1152 + n.val = 1024 + 128 * (j.val / 512) + n.val
    omega

include H R in
/-- The chunk's accumulator. -/
theorem mix_point (l : Fin 256) (j : Fin 1024) :
    yP X D DT cw cb db dbT al alT dk E sh (heads e X 5 (by omega)) (heads e X 6 (by omega)) (heads e X 7 (by omega))
      (half S 0) (half S 1) (ix2 l j) = mix A t l j := by
  unfold yP mix
  by_cases hj : j.val < 512
  · rw [ybuf_low _ _ _ _ _ _ _ _ _ l j hj, low_point _ _ _ _ _ _ _ _ _ _ _ _ _ _ _ _ _ _ H R l j hj,
      duo_point _ _ _ _ _ _ _ _ _ _ _ _ _ _ _ _ _ _ H R _ l j (fun s => scores_low _ _ _ _ _ _ _ _ _ _ _ _ _ _ _ _ _ _ H l s j hj)]
    abel
  · rw [ybuf_high _ _ _ _ _ _ _ _ _ l j (by omega), high_point _ _ _ _ _ _ _ _ _ _ _ _ _ _ _ _ _ _ H R l j (by omega),
      duo_point _ _ _ _ _ _ _ _ _ _ _ _ _ _ _ _ _ _ H R _ l j
        (fun s => scores_high _ _ _ _ _ _ _ _ _ _ _ _ _ _ _ _ _ _ H l s j (by omega))]
    abel

include H R in
/-- The gated accumulator. -/
theorem gated_point (l : Fin 256) (j : Fin 1024) :
    yP X D DT cw cb db dbT al alT dk E sh (heads e X 5 (by omega)) (heads e X 6 (by omega)) (heads e X 7 (by omega))
      (half S 0) (half S 1) (ix2 l j) * (Z (ix2 l j) * Ideal.logistic (Z (ix2 l j))) = gated A t l j := by
  rw [mix_point _ _ _ _ _ _ _ _ _ _ _ _ _ _ _ _ _ _ H R, H.hZ]
  rfl

include H R in
/-- The stored block. -/
theorem out_point (l : Fin 256) (j : Fin 1024) :
    outP Z X D DT cw cb db dbT al alT dk ng E sh (heads e X 5 (by omega)) (heads e X 6 (by omega)) (heads e X 7 (by omega))
      (half S 0) (half S 1) (ix2 l j) = normed A t l j := by
  unfold outP
  canon_tiles x h
  case piece0 =>
    obtain ⟨u, w, rfl⟩ : ∃ (u : Fin 256) (w : Fin 512), x = ix2 u w := ⟨x 0, x 1, eq_ix2 x⟩
    have e0 : l.val = u.val := h0
    have e1 : j.val = 512 + w.val := h1
    obtain rfl : l = u := Fin.ext e0
    obtain ⟨j, hj⟩ := j
    dsimp only at e1
    subst e1
    have eg : ∀ (i : Fin 512) (p : _), (⟨512 * (grp ⟨512 + w.val, hj⟩).val + i.val, p⟩ : Fin 1024) = ⟨512 + i.val, by omega⟩ := fun i p =>
      Fin.ext (by show 512 * ((512 + w.val) / 512) + i.val = 512 + i.val; omega)
    unfold normed
    rw [← H.hng]
    simp only [eg, ← gated_point _ _ _ _ _ _ _ _ _ _ _ _ _ _ _ _ _ _ H R]
    pointwise [k0_pay1, k0_pay123, k0_pay121]
  case piece1 =>
    obtain ⟨u, w, rfl⟩ : ∃ (u : Fin 256) (w : Fin 512), x = ix2 u w := ⟨x 0, x 1, eq_ix2 x⟩
    have e0 : l.val = u.val := h0
    have e1 : j.val = w.val := h1
    obtain rfl : l = u := Fin.ext e0
    obtain ⟨j, hj⟩ := j
    dsimp only at e1
    subst e1
    have eg : ∀ (i : Fin 512) (p : _), (⟨512 * (grp ⟨w.val, hj⟩).val + i.val, p⟩ : Fin 1024) = ⟨i.val, by omega⟩ := fun i p =>
      Fin.ext (by show 512 * ((w.val) / 512) + i.val = i.val; omega)
    unfold normed
    rw [← H.hng]
    simp only [eg, ← gated_point _ _ _ _ _ _ _ _ _ _ _ _ _ _ _ _ _ _ H R]
    pointwise [k0_pay122, k0_pay121]

include H R in
/-- The first group's state afterwards. -/
theorem state_low (n : Fin 128) (j : Fin 512) :
    lowP X D cw cb db al E sh (heads e X 5 (by omega)) (heads e X 6 (by omega)) (heads e X 7 (by omega)) (half S 0) (ix3 0 n j) =
      prev A t n ⟨j.val, by omega⟩ * Ideal.exp (cum A t 255 (head ⟨j.val, by omega⟩)) + inc A t n ⟨j.val, by omega⟩ := by
  unfold lowP inc
  rw [← decay_point _ _ _ _ _ _ _ _ _ _ _ _ _ _ _ _ _ _ H R]
  pointwise [k0_pay72, k0_pay25, k0_pay28]
  refine congrArg₂ (· + ·) (congrArg₂ (· * ·) ((H.hS 0 n j).trans ?_) rfl) (Finset.sum_congr rfl fun x _ => congrArg₂ (· * ·) ?_ ?_)
  · exact congrArg (prev A t n) (Fin.ext (by show 512 * 0 + j.val = j.val; omega))
  · refine key_point _ _ _ _ _ _ _ _ _ _ _ _ _ _ _ _ _ _ H x _ n _ ?_
    show 1024 + n.val = 1024 + 128 * (j.val / 512) + n.val
    omega
  · exact ended_point _ _ _ _ _ _ _ _ _ _ _ _ _ _ _ _ _ _ H R x _

include H R in
/-- The second group's state afterwards. -/
theorem state_high (n : Fin 128) (j : Fin 512) :
    highP X D cw cb db al E sh (heads e X 5 (by omega)) (heads e X 6 (by omega)) (heads e X 7 (by omega)) (half S 1) (ix3 0 n j) =
      prev A t n ⟨512 + j.val, by omega⟩ * Ideal.exp (cum A t 255 (head ⟨512 + j.val, by omega⟩)) + inc A t n ⟨512 + j.val, by omega⟩ := by
  unfold highP inc
  rw [← decay_point _ _ _ _ _ _ _ _ _ _ _ _ _ _ _ _ _ _ H R]
  pointwise [k0_pay120, k0_pay73, k0_pay76]
  refine congrArg₂ (· + ·) (congrArg₂ (· * ·) ((H.hS 1 n j).trans ?_) rfl) (Finset.sum_congr rfl fun x _ => congrArg₂ (· * ·) ?_ ?_)
  · exact congrArg (prev A t n) (Fin.ext (by show 512 * 1 + j.val = 512 + j.val; omega))
  · refine key_point _ _ _ _ _ _ _ _ _ _ _ _ _ _ _ _ _ _ H x _ n _ ?_
    show 1152 + n.val = 1024 + 128 * ((512 + j.val) / 512) + n.val
    omega
  · exact ended_point _ _ _ _ _ _ _ _ _ _ _ _ _ _ _ _ _ _ H R x _

end Point
end Cert.SsdIdeal.Mixer
-- ==== Proof.Ssd.Scatter.lean ====
module

public import Idealize.ShloMosaic.Lib.Routing.OpsOne
public import Idealize.ShloMosaic.Lib.WordCmp

@[expose] public section

noncomputable section

open Idealize.ShloMosaic Idealize.ShloMosaic.ValueIdx Idealize.ShloMosaic.Routing

namespace Cert.SsdIdeal.Mixer

/-- Update `k` of a row of updates written from the first cell lands in row 0, column `k`. -/
theorem lands_row {C U w : Nat} (d : ScatterDims (shape2 1 C) (shape1 2) (shape1 U)) (hiw : d.insertedWindowDims = [0]) (hsd : d.scatterDimsToOperandDims = [0, 1])
    (hivd : d.indexVectorDim = 0) (idx : IVec (shape1 2) w) (h0 : ∀ q, (idx (ix1 q)).toInt = 0) (k : Fin U) (c : Fin C) :
    d.resultIdx? (ix1 k) idx = some (ix2 0 c) ↔ k.val = c.val := by
  have hk : d.sKept = [1] := by
    show (shape2 1 C).kept d.insertedWindowDims = _
    rw [hiw]
    rfl
  have hwin0 : d.window (ix1 k) 0 = 0 := by
    unfold ScatterDims.window
    rw [dif_neg fun h => (of_decide_eq_true (List.mem_filter.1 h).2) (by rw [hiw]; simp)]
  have hwin1 : d.window (ix1 k) 1 = k.val := by
    unfold ScatterDims.window
    rw [dif_pos (by rw [hk]; simp)]
    exact congrArg (fun t => ((ix1 k : (shape1 U).Idx) t).val) (Subsingleton.elim (α := Fin 1) _ 0)
  rw [resultIdx?_ix2, start_pair d hsd hivd, start_pair d hsd hivd, hwin0, hwin1, h0, h0]
  simp

/-- A row of updates written from the first cell: in the columns it reaches, the updates. -/
theorem scatter_row {α : Type} {C U w : Nat} (d : ScatterDims (shape2 1 C) (shape1 2) (shape1 U)) (hiw : d.insertedWindowDims = [0])
    (hsd : d.scatterDimsToOperandDims = [0, 1]) (hivd : d.indexVectorDim = 0) (x0 : (shape2 1 C).Idx → α) (idx : IVec (shape1 2) w)
    (h0 : ∀ q, (idx (ix1 q)).toInt = 0) (upd : (shape1 U).Idx → α) (k : Fin U) (c : Fin C) (hc : k.val = c.val) :
    Host.scatter d (fun _ b => b) x0 idx upd (ix2 0 c) = upd (ix1 k) :=
  scatter_set_hit d x0 idx upd _ _ (fun j hj => by
    rw [eq_ix1 j] at hj ⊢
    exact congrArg (fun t => upd (ix1 t)) (Fin.ext (((lands_row d hiw hsd hivd idx h0 (j 0) c).1 hj).trans hc.symm)))
    (ix1 k) ((lands_row d hiw hsd hivd idx h0 k c).2 hc)

/-- Update `(a, b)` of a block of updates written from the first row lands at `(a, b)`. -/
theorem lands_block {A B C w : Nat} (d : ScatterDims (shape2 A C) (shape1 1) (shape2 B C)) (hu : d.updateWindowDims = [0, 1])
    (hiw : d.insertedWindowDims = []) (hsd : d.scatterDimsToOperandDims = [0]) (idx : IVec (shape1 1) w)
    (h0 : (idx (ix1 0)).toInt = 0) (a : Fin B) (b : Fin C) (r : Fin A) (c : Fin C) :
    d.resultIdx? (ix2 a b) idx = some (ix2 r c) ↔ a.val = r.val ∧ b.val = c.val := by
  have hm : (0 : Fin 2) ∈ d.scatterDimsToOperandDims := by rw [hsd]; exact List.mem_singleton.2 rfl
  have hk : d.sKept = [0, 1] := by
    show (shape2 A C).kept d.insertedWindowDims = _
    rw [hiw]
    rfl
  have hwin : ∀ q : Fin 2, d.window (ix2 a b) q = ((ix2 a b : (shape2 B C).Idx) q).val := by
    intro q
    unfold ScatterDims.window
    rw [dif_pos (by rw [hk]; fin_cases q <;> simp)]
    have key : ∀ (l1 l2 : List (Fin 2)) (h : l2.idxOf q < l1.length), l1 = [0, 1] → l2 = [0, 1] → l1[l2.idxOf q] = q := by
      rintro l1 l2 h rfl rfl
      fin_cases q <;> rfl
    exact congrArg (fun t : Fin 2 => ((ix2 a b : (shape2 B C).Idx) t).val) (key _ _ _ hu hk)
  have hs0 : d.start (ix2 a b) idx 0 = 0 := by
    unfold ScatterDims.start
    rw [dif_pos hm]
    have hsi : d.siIdx (ix2 a b) ⟨d.scatterDimsToOperandDims.idxOf 0, List.idxOf_lt_length_iff.2 hm⟩ = ix1 (0 : Fin 1) := by
      funext b'
      match b' with
      | ⟨0, _⟩ => exact Subsingleton.elim (α := Fin 1) _ _
    rw [hsi, h0]
  have hs1 : d.start (ix2 a b) idx 1 = 0 := by
    unfold ScatterDims.start
    rw [dif_neg fun h => by rw [hsd] at h; exact absurd (List.mem_singleton.1 h) (by decide : (1 : Fin 2) ≠ 0)]
  rw [resultIdx?_ix2, hs0, hs1, hwin, hwin]
  show (0 : Int) + (a.val : Int) = r.val ∧ (0 : Int) + (b.val : Int) = c.val ↔ _
  omega

/-- A block of updates written from the first row: the updates in the rows it reaches, the operand below. -/
theorem scatter_block {α : Type} {A B C w : Nat} (d : ScatterDims (shape2 A C) (shape1 1) (shape2 B C)) (hu : d.updateWindowDims = [0, 1])
    (hiw : d.insertedWindowDims = []) (hsd : d.scatterDimsToOperandDims = [0]) (x0 : (shape2 A C).Idx → α) (idx : IVec (shape1 1) w)
    (h0 : (idx (ix1 0)).toInt = 0) (upd : (shape2 B C).Idx → α) (r : Fin A) (c : Fin C) :
    Host.scatter d (fun _ b => b) x0 idx upd (ix2 r c) = if h : r.val < B then upd (ix2 ⟨r.val, h⟩ c) else x0 (ix2 r c) := by
  by_cases h : r.val < B
  · rw [dif_pos h]
    refine scatter_set_hit d x0 idx upd _ _ (fun j hj => ?_) (ix2 ⟨r.val, h⟩ c) ((lands_block d hu hiw hsd idx h0 ⟨r.val, h⟩ c r c).2 ⟨rfl, rfl⟩)
    rw [eq_ix2 j] at hj ⊢
    obtain ⟨e1, e2⟩ := (lands_block d hu hiw hsd idx h0 (j 0) (j 1) r c).1 hj
    have f1 : j 0 = ⟨r.val, h⟩ := Fin.ext e1
    have f2 : j 1 = c := Fin.ext e2
    rw [f1, f2]
    rfl
  · rw [dif_neg h]
    refine scatter_set_miss d x0 idx upd _ fun j hj => h ?_
    rw [eq_ix2 j] at hj
    have := ((lands_block d hu hiw hsd idx h0 (j 0) (j 1) r c).1 hj).1
    exact this ▸ (j 0).isLt

/-- The words of the lane's head and of the row agree exactly where the numbers do. -/
theorem same_word (a b : ℕ) (ha : a < 2 ^ 32) (hb : b < 2 ^ 32) :
    IntOp.cmpi .eq (IntOp.addi (BitVec.ofNat 32 a) 0#32) (BitVec.ofNat 32 b) = 1#1 ↔ a = b := by
  rw [WordCmp.cmpi_eq_eq_toNat, WordCmp.ofBool_decide_eq_one_iff]
  simp only [IntOp.addi, BitVec.add_zero, BitVec.toNat_ofNat, Nat.mod_eq_of_lt ha, Nat.mod_eq_of_lt hb]

/-- And of a column and a row shifted by a few places. -/
theorem shift_word (a b k : ℕ) (ha : a < 256) (hb : b < 256) (hk : k < 4) :
    IntOp.cmpi .eq (BitVec.ofNat 32 a) (IntOp.subi (BitVec.ofNat 32 b) (BitVec.ofNat 32 k)) = 1#1 ↔ a + k = b := by
  rw [WordCmp.cmpi_eq_eq_toNat, WordCmp.ofBool_decide_eq_one_iff]
  simp only [IntOp.subi, BitVec.toNat_sub, BitVec.toNat_ofNat]
  omega

end Cert.SsdIdeal.Mixer
-- ==== Proof.Ssd.Blocks.lean ====
module

public import proofs.«01_k».proof.Proof.Ssd.Point
public import Idealize.ShloMosaic.Lib.Pipeline.ValueKit
public import Idealize.ShloMosaic.Lib.Pointwise
public import proofs.«01_k».proof.Proof.Ssd.Scatter
public import Idealize.ShloMosaic.Lib.Claim

@[expose] public section

set_option maxRecDepth 16384

noncomputable section

open Idealize.ShloMosaic Idealize.ShloMosaic.TcCoe Idealize.SL.Sem

namespace Cert.SsdIdeal.Mixer

open Cert.SsdIdeal Cert.SsdIdeal.Gen

variable (m : (ℓ : Loc nD τ sig) → Buf (Elt Ideal) ℓ)

/-- An indicator bit read as a number. -/
theorem uitofp_bool (φ : FTy) (p : Prop) [Decidable p] (b : BitVec 1) (h : b = 1#1 ↔ p) :
    (FloatOps.uitofp (F := Ideal) φ b : EReal) = if p then 1 else 0 := by
  by_cases hp : p
  · rw [if_pos hp, h.2 hp]; simp [FloatOps.uitofp]
  · rw [if_neg hp, show b = 0#1 from by
      rcases (by decide : ∀ b : BitVec 1, b = 0#1 ∨ b = 1#1) b with e | e
      · exact e
      · exact absurd (h.1 e) hp]
    simp [FloatOps.uitofp]

/-- The arguments of the mixer, read off the buffers. -/
def args (c : Dev nD) : Args where
  z := fun r j => (m ((c : Thread nD τ).loc main_arg0) : FVec Ideal S32768x1024 .bf16) (ix2 r j)
  x := fun r q => (m ((c : Thread nD τ).loc main_arg1) : FVec Ideal S32768x1536 .bf16) (ix2 r q)
  d := fun r h => (m ((c : Thread nD τ).loc main_arg2) : FVec Ideal S32768x128 .f32) (ix2 r ⟨h.val, by omega⟩)
  cw := fun k q => (m ((c : Thread nD τ).loc main_arg3) : FVec Ideal S4x1536 .f32) (ix2 k q)
  cb := fun q => (m ((c : Thread nD τ).loc main_arg4) : FVec Ideal S1536 .f32) (ix1 q)
  db := fun h => (m ((c : Thread nD τ).loc main_arg5) : FVec Ideal S16 .f32) (ix1 h)
  al := fun h => (m ((c : Thread nD τ).loc main_arg6) : FVec Ideal S16 .f32) (ix1 h)
  dk := fun h => (m ((c : Thread nD τ).loc main_arg7) : FVec Ideal S16 .f32) (ix1 h)
  ng := fun j => (m ((c : Thread nD τ).loc main_arg8) : FVec Ideal S1024 .f32) (ix1 j)

/-- Where every window's block sits at grid point `t`. -/
theorem idx : ∀ t : Fin cfg0.N, win0_0.index t = ![t.val, 0] ∧ win0_1.index t = ![t.val, 0] ∧ win0_2.index t = ![t.val, 0]
    ∧ win0_3.index t = ![t.val / 16, 0, t.val % 16] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![t.val, 0] :=
  (by decide +kernel : ∀ t : Fin grid0.N, _)

/-- The gate's rows. -/
theorem z_block (c : Dev nD) (t : Fin cfg0.N) (l : Fin 256) (j : Fin 1024) :
    iblk m c 0 t (ix2 l j) = (args m c).z (row t.val l) j := by
  have ht : t.val < 128 := lt_of_lt_of_eq t.isLt N_0
  have hr := row_val t.val l ht
  unfold args
  dsimp only
  blk_ext [iblk, V, idx t, hr]
  all_goals omega

/-- The step sizes' rows. -/
theorem d_block (c : Dev nD) (t : Fin cfg0.N) (l : Fin 256) (h : Fin 16) :
    iblk m c 2 t (ix2 l (⟨h.val, by omega⟩ : Fin 128)) = (args m c).d (row t.val l) h := by
  have ht : t.val < 128 := lt_of_lt_of_eq t.isLt N_0
  have hr := row_val t.val l ht
  unfold args
  dsimp only
  blk_ext [iblk, V, idx t, hr]
  all_goals omega

/-- The convolution's input rows. -/
theorem x_block (c : Dev nD) (t : Fin cfg0.N) (l : Fin 256) (q : Fin 1536) :
    iblk m c 1 t (ix2 l q) = (args m c).x (row t.val l) q := by
  have ht : t.val < 128 := lt_of_lt_of_eq t.isLt N_0
  have hr := row_val t.val l ht
  unfold args
  dsimp only
  blk_ext [iblk, V, idx t, hr]
  all_goals omega

/-- The step sizes with the heads as rows. -/
theorem dT_block (c : Dev nD) (t : Fin cfg0.N) (l : Fin 256) (h : Fin 16) :
    iblk m c 3 t (ix3 0 h l) = (args m c).d (row t.val l) h := by
  have ht : t.val < 128 := lt_of_lt_of_eq t.isLt N_0
  have hr := row_val t.val l ht
  have e : ((cfg0.win 3).blk t).view.emb (ix3 0 h l) = (ix3 ⟨t.val / 16, by omega⟩ h ⟨256 * (t.val % 16) + l.val, by omega⟩ : S8x16x4096.Idx) := by
    blk_ext [idx t]
  have er : (⟨t.val / 16 * 4096 + (256 * (t.val % 16) + l.val), by omega⟩ : Fin 32768) = row t.val l := Fin.ext (by rw [hr]; dsimp only; omega)
  unfold args
  dsimp only
  blk_simp [iblk]
  rw [e]
  entry_read
  pointwise []
  rw [er]

/-- The convolution's weights. -/
theorem cw_block (c : Dev nD) (t : Fin cfg0.N) (k : Fin 4) (q : Fin 1536) :
    iblk m c 4 t (ix2 k q) = (args m c).cw k q := by
  unfold args
  dsimp only
  blk_ext [iblk, V, idx t]

/-- The convolution's bias. -/
theorem cb_block (c : Dev nD) (t : Fin cfg0.N) (q : Fin 1536) :
    iblk m c 5 t (ix2 0 q) = (args m c).cb q := by
  have e : ((cfg0.win 5).blk t).view.emb (ix2 0 q) = (ix2 0 q : S1x1536.Idx) := by
    blk_ext [idx t]
  unfold args
  dsimp only
  blk_simp [iblk]
  rw [e]
  entry_read
  pointwise []

/-- The step bias along the lanes. -/
theorem db_block (c : Dev nD) (t : Fin cfg0.N) (h : Fin 16) :
    iblk m c 6 t (ix2 0 (⟨h.val, by omega⟩ : Fin 128)) = (args m c).db h := by
  have e : ((cfg0.win 6).blk t).view.emb (ix2 0 (⟨h.val, by omega⟩ : Fin 128)) = (ix2 0 (⟨h.val, by omega⟩ : Fin 128) : S1x128.Idx) := by
    blk_ext [idx t]
  unfold args
  dsimp only
  blk_simp [iblk]
  rw [e]
  entry_read
  exact scatter_row _ rfl rfl rfl _ _ (by intro q; fin_cases q <;> rfl) _ h _ rfl

/-- The step bias down the rows. -/
theorem dbT_block (c : Dev nD) (t : Fin cfg0.N) (h : Fin 16) :
    iblk m c 7 t (ix2 h 0) = (args m c).db h := by
  have e : ((cfg0.win 7).blk t).view.emb (ix2 h 0) = (ix2 h 0 : S16x1.Idx) := by
    blk_ext [idx t]
  unfold args
  dsimp only
  blk_simp [iblk]
  rw [e]
  entry_read
  pointwise []

/-- The decay rate along the lanes. -/
theorem al_block (c : Dev nD) (t : Fin cfg0.N) (h : Fin 16) :
    iblk m c 8 t (ix2 0 (⟨h.val, by omega⟩ : Fin 128)) = (args m c).al h := by
  have e : ((cfg0.win 8).blk t).view.emb (ix2 0 (⟨h.val, by omega⟩ : Fin 128)) = (ix2 0 (⟨h.val, by omega⟩ : Fin 128) : S1x128.Idx) := by
    blk_ext [idx t]
  unfold args
  dsimp only
  blk_simp [iblk]
  rw [e]
  entry_read
  exact scatter_row _ rfl rfl rfl _ _ (by intro q; fin_cases q <;> rfl) _ h _ rfl

/-- The decay rate down the rows. -/
theorem alT_block (c : Dev nD) (t : Fin cfg0.N) (h : Fin 16) :
    iblk m c 9 t (ix2 h 0) = (args m c).al h := by
  have e : ((cfg0.win 9).blk t).view.emb (ix2 h 0) = (ix2 h 0 : S16x1.Idx) := by
    blk_ext [idx t]
  unfold args
  dsimp only
  blk_simp [iblk]
  rw [e]
  entry_read
  pointwise []

/-- The skip weight of every channel. -/
theorem dk_block (c : Dev nD) (t : Fin cfg0.N) (q : Fin 1024) :
    iblk m c 10 t (ix2 0 q) = (args m c).dk (head q) := by
  have e : ((cfg0.win 10).blk t).view.emb (ix2 0 q) = (ix2 0 q : S1x1024.Idx) := by
    blk_ext [idx t]
  unfold args head
  dsimp only
  blk_simp [iblk]
  rw [e]
  entry_read
  pointwise []

/-- The norm's gain. -/
theorem ng_block (c : Dev nD) (t : Fin cfg0.N) (q : Fin 1024) :
    iblk m c 11 t (ix2 0 q) = (args m c).ng q := by
  have e : ((cfg0.win 11).blk t).view.emb (ix2 0 q) = (ix2 0 q : S1x1024.Idx) := by
    blk_ext [idx t]
  unfold args
  dsimp only
  blk_simp [iblk]
  rw [e]
  entry_read
  pointwise []

/-- The matrix that spreads a head over its lanes. -/
theorem e_block (c : Dev nD) (t : Fin cfg0.N) (q : Fin 256) (j : Fin 1024) :
    (show Vec Ideal S256x1024 .bf16 from iblk m c 12 t) (ix2 q j) = if q.val % 128 = j.val / 64 then 1 else 0 := by
  have e : ((cfg0.win 12).blk t).view.emb (ix2 q j) = (ix2 q j : S256x1024.Idx) := by
    blk_ext [idx t]
  blk_simp [iblk]
  rw [e]
  entry_read
  pointwise []
  by_cases hq : q.val < 128
  · rw [dif_pos hq]
    refine (scatter_block _ rfl rfl rfl _ _ rfl _ _ _).trans ?_
    by_cases h : q.val < 16
    · refine (dif_pos h).trans ?_
      exact uitofp_bool .f32 _ _ ((same_word q.val (j.val / 64) (by omega) (by omega)).trans (by omega))
    · have hne : ¬ (q.val % 128 = j.val / 64) := by omega
      refine ((dif_neg h).trans ?_).trans (if_neg hne).symm
      show (Ideal.ofBits .f32 0#32 : EReal) = 0
      exact Ideal.ofBits_zero_f32
  · rw [dif_neg hq]
    refine (scatter_block _ rfl rfl rfl _ _ rfl _ _ _).trans ?_
    by_cases h : q.val - 128 < 16
    · refine (dif_pos h).trans ?_
      exact uitofp_bool .f32 _ _ ((same_word (q.val - 128) (j.val / 64) (by omega) (by omega)).trans (by omega))
    · have hne : ¬ (q.val % 128 = j.val / 64) := by omega
      refine ((dif_neg h).trans ?_).trans (if_neg hne).symm
      show (Ideal.ofBits .f32 0#32 : EReal) = 0
      exact Ideal.ofBits_zero_f32

/-- The rows shifted by the word `k`, as a table of bits. -/
def pattern (k : BitVec 32) : IVec S256x256 1 :=
  cmpi .eq (broadcastInDim S256x256 ![0, 1] bcast_S1x256_S256x256_0_1 (broadcastInDim S1x256 ![1] bcast_S256_S1x256_1 (iotaInDim S256 32 0)))
    (broadcastInDim S256x256 ![0, 1] bcast_S256x1_S256x256_0_1 (subi (broadcastInDim S256x1 ![0] bcast_S256_S256x1_0 (iotaInDim S256 32 0))
      (broadcastInDim S256x1 ![] bcast_S_S256x1 (constantI S_ 32 k))))

/-- Its bits: the column is the row moved by `k` places. -/
theorem pattern_at (k : ℕ) (hk : k < 4) (b x : Fin 256) : pattern (BitVec.ofNat 32 k) (ix2 b x) = 1#1 ↔ x.val + k = b.val := by
  have e : pattern (BitVec.ofNat 32 k) (ix2 b x) = IntOp.cmpi .eq (BitVec.ofNat 32 x.val) (IntOp.subi (BitVec.ofNat 32 b.val) (BitVec.ofNat 32 k)) := by
    unfold pattern
    pointwise []
  rw [e]
  exact shift_word x.val b.val k x.isLt b.isLt hk

/-- The array of shift matrices, as the host builds it. -/
theorem table (c : Dev nD) : V m c main_v36 = (uitofp .bf16 (concatenate S768x256 0 [⟨S256x256, pattern 3#32⟩, ⟨S256x256, pattern 2#32⟩, ⟨S256x256, pattern 1#32⟩]
    concatenates_S256x256_S256x256_S256x256_S768x256_d0) : FVec Ideal S768x256 .bf16) := by
  unfold V hostOps0
  simp only [Idealize.ShloMosaic.StableHlo.after_cons, Idealize.ShloMosaic.StableHlo.after_nil]
  after_results_simp
  refine congrArg (uitofp .bf16) (StableHlo.concatenate_congr _ _ ?_ _ _)
  have key : ∀ {α : Type} {s : Shape} {a a' b b' d d' : s.Idx → α}, a = a' → b = b' → d = d' →
      ([⟨s, a⟩, ⟨s, b⟩, ⟨s, d⟩] : List ((s : Shape) × (s.Idx → α))) = [⟨s, a'⟩, ⟨s, b'⟩, ⟨s, d'⟩] := by
    rintro α s a a' b b' d d' rfl rfl rfl; rfl
  refine key ?_ ?_ ?_
  · dsimp only [Matrix.cons_val]
    after_results_loop
    rfl
  · dsimp only [Matrix.cons_val]
    after_results_loop
    rfl
  · dsimp only [Matrix.cons_val]
    after_results_loop
    rfl

/-- The matrices that shift the rows by three, two and one. -/
theorem sh_block (c : Dev nD) (t : Fin cfg0.N) (a : Fin 768) (x : Fin 256) :
    (show Vec Ideal S768x256 .bf16 from iblk m c 13 t) (ix2 a x) = if x.val + 3 = a.val % 256 + a.val / 256 then 1 else 0 := by
  have e : ((cfg0.win 13).blk t).view.emb (ix2 a x) = (ix2 a x : S768x256.Idx) := by
    blk_ext [idx t]
  blk_simp [iblk]
  rw [e]
  rw [table]
  refine uitofp_bool .bf16 _ _ ?_
  pointwise []
  by_cases h : a.val < 256
  · rw [dif_pos h]
    exact (pattern_at 3 (by omega) ⟨a.val, h⟩ x).trans (by dsimp only; omega)
  · rw [dif_neg h]
    by_cases h' : a.val - 256 < 256
    · rw [dif_pos h']
      exact (pattern_at 2 (by omega) ⟨a.val - 256, h'⟩ x).trans (by dsimp only; omega)
    · rw [dif_neg h']
      exact (pattern_at 1 (by omega) ⟨a.val - 256 - 256, by omega⟩ x).trans (by dsimp only; omega)

/-- The seven hypotheses' places are the point's: what the windows and the carried arrays hold, given the state carried in. -/
theorem holds_of (c : Dev nD) (t : Fin cfg0.N)
    (hS : ∀ (g : Fin 2) (n : Fin 128) (j : Fin 512), prior m c t (ix3 g n j) = prev (args m c) t.val n ⟨512 * g.val + j.val, by omega⟩) :
    Holds (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (before m c t) (prior m c t) (args m c) t.val where
  ht := lt_of_lt_of_eq t.isLt N_0
  hZ := z_block m c t
  hX := x_block m c t
  hD := d_block m c t
  hDT := dT_block m c t
  hcw := cw_block m c t
  hcb := cb_block m c t
  hdb := db_block m c t
  hdbT := dbT_block m c t
  hal := al_block m c t
  halT := alT_block m c t
  hdk := dk_block m c t
  hng := ng_block m c t
  hE := e_block m c t
  hsh := sh_block m c t
  he := by
    intro l q
    unfold before
    split
    · rfl
    · exact x_block m c _ _ q
  hS := hS

end Cert.SsdIdeal.Mixer
-- ==== Proof.Ssd.Value.lean ====
module

public import proofs.«01_k».proof.Proof.Ssd.Blocks
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.SsdIdeal.Mixer

open Cert.SsdIdeal Cert.SsdIdeal.Gen

variable (m : (ℓ : Loc nD τ sig) → Buf (Elt Ideal) ℓ)

/-- Element `(g, n, j)` of a pair of states, seen in its half. -/
theorem in_half (g : Fin 2) (n : Fin 128) (j : Fin 512) {k : ℕ} (hk : g.val = k) (inb) :
    (Rect.unit (s := S2x128x512) ![k, 0, 0] S1x128x512.size inb).emb (ix3 0 n j) = (ix3 g n j : S2x128x512.Idx) := by
  funext a
  apply Fin.ext
  fin_cases a
  · show k + 1 * 0 = g.val
    omega
  · show 0 + 1 * n.val = n.val
    omega
  · show 0 + 1 * j.val = j.val
    omega

/-- A pair of states laid down in two halves, read in either. -/
theorem canon_half (hi lo : FVec Ideal S1x128x512 .f32) (T : List (View.Piece (Elt Ideal) S2x128x512 EltTy.f32)) (n : Fin 128) (j : Fin 512) :
    View.canon (Val := Elt Ideal) (⟨Rect.unit (s := S2x128x512) ![1, 0, 0] S1x128x512.size inb_S2x128x512_S1x128x512_1_0_0, hi⟩
        :: ⟨Rect.unit (s := S2x128x512) ![0, 0, 0] S1x128x512.size inb_S2x128x512_S1x128x512_0_0_0, lo⟩ :: T) (ix3 0 n j : S2x128x512.Idx) = lo (ix3 0 n j)
    ∧ View.canon (Val := Elt Ideal) (⟨Rect.unit (s := S2x128x512) ![1, 0, 0] S1x128x512.size inb_S2x128x512_S1x128x512_1_0_0, hi⟩
        :: ⟨Rect.unit (s := S2x128x512) ![0, 0, 0] S1x128x512.size inb_S2x128x512_S1x128x512_0_0_0, lo⟩ :: T) (ix3 1 n j : S2x128x512.Idx) = hi (ix3 0 n j) := by
  constructor
  · rw [View.canon_cons_of_not_mem _ _ (by
      rw [Rect.mem_set_unit]
      intro h
      exact absurd (h 0).1 (show ¬ 1 ≤ 0 by omega))]
    rw [← in_half 0 n j (k := 0) rfl inb_S2x128x512_S1x128x512_0_0_0, View.canon_cons_emb]
  · rw [← in_half 1 n j (k := 1) rfl inb_S2x128x512_S1x128x512_1_0_0, View.canon_cons_emb]

/-- The state carried into every point is the recurrence's. -/
theorem prior_eq (c : Dev nD) (R : Steps (args m c)) : ∀ (k : ℕ) (hk : k < cfg0.N) (g : Fin 2) (n : Fin 128) (j : Fin 512),
    prior m c ⟨k, hk⟩ (ix3 g n j) = prev (args m c) k n ⟨512 * g.val + j.val, by omega⟩
  | 0, hk, g, n, j => by
    unfold prior prev
    rfl
  | k + 1, hk, g, n, j => by
    unfold prior prev
    dsimp only
    by_cases h : (k + 1) % 16 = 0
    · rw [if_pos h, if_pos h]
    · rw [if_neg h, if_neg h]
      have H := holds_of m c ⟨k, by omega⟩ (prior_eq c R k (by omega))
      obtain ⟨T, hT⟩ := state_step m c ⟨k, by omega⟩
      have L := state_low _ _ _ _ _ _ _ _ _ _ _ _ _ _ _ _ _ _ H R n j
      have U := state_high _ _ _ _ _ _ _ _ _ _ _ _ _ _ _ _ _ _ H R n j
      refine (congrFun hT _).trans ?_
      obtain ⟨g, hg⟩ := g
      obtain rfl | rfl : g = 0 ∨ g = 1 := by omega
      · refine ((canon_half _ _ T n j).1.trans L).trans ?_
        rw [show (⟨j.val, by omega⟩ : Fin 1024) = ⟨512 * 0 + j.val, by omega⟩ from Fin.ext (by dsimp only; omega)]
      · refine ((canon_half _ _ T n j).2.trans U).trans ?_
        rfl

theorem normed_congr (A : Args) {t t' : ℕ} {l l' : Fin 256} {j j' : Fin 1024} (ht : t = t') (hl : l.val = l'.val) (hj : j.val = j'.val) :
    normed A t l j = normed A t' l' j' := by
  obtain rfl := Fin.ext hl
  obtain rfl := Fin.ext hj
  subst ht
  rfl

/-- The mixer's output after the run: the gated, normalised state-space sequence. -/
theorem final (c : Dev nD) (R : Steps (args m c)) : (dats m 0 c).arrAt 14 (cfgs 0).N = fun i : S32768x1024.Idx =>
    normed (args m c) ((i 0).val / 256) ⟨(i 0).val % 256, by omega⟩ ⟨(i 1).val, (i 1).isLt⟩ := by
  refine (dats m 0 c).arrAt_eq_of_covers 14 _ (by decide +kernel) fun t hf y => ?_
  blk_simp
  rw [after0_14]
  have ht : t.val < 128 := lt_of_lt_of_eq t.isLt N_0
  have y0 : (y 0).val < 256 := (y 0).isLt
  have y1 : (y 1).val < 1024 := (y 1).isLt
  rw [out_step]
  have H := holds_of m c t (prior_eq m c R t.val t.isLt)
  have O := out_point _ _ _ _ _ _ _ _ _ _ _ _ _ _ _ _ _ _ H R ⟨(y 0).val, y0⟩ ⟨(y 1).val, y1⟩
  rw [eq_ix2 y]
  refine Eq.trans O ?_
  refine normed_congr _ ?_ ?_ ?_ <;> blk_simp [idx t] <;> (dsimp only; omega)

end Cert.SsdIdeal.Mixer
-- ==== Proof.Ssd.Reference.lean ====
module

public import proofs.«01_k».proof.Defs
public import proofs.«01_k».proof.Proof.Ssd.RefOut
public import proofs.«01_k».proof.Proof.Ssd.Value
public import proofs.«01_k».proof.Proof.Gen.SsdIdeal.Value
public import proofs.«01_k».proof.Proof.Gen.SsdRefIdeal.Run
public import proofs.«01_k».proof.Proof.Gen.SsdRefIdeal.Read
public import Idealize.ShloMosaic.Lib.ReduceAll
public import Idealize.ShloMosaic.Lib.Affine
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.SsdIdeal.Mixer

/-- The larger of two reals is the same read as an extended real. -/
theorem coe_larger (a b : ℝ) : ((max a b : ℝ) : EReal) = max (a : EReal) (b : EReal) := EReal.coe_strictMono.monotone.map_max

/-- The softplus of a real is a real. -/
theorem soft_real (u : ℝ) : ∃ r : ℝ, soft (u : EReal) = (r : EReal) := by
  have ha : FloatOps.absf (F := Ideal) (φ := .f32) (u : EReal) = ((max u (-u) : ℝ) : EReal) := by
    change max (u : EReal) (-(u : EReal)) = _
    rw [← EReal.coe_neg, coe_larger]
  have he : Ideal.exp (0 - ((max u (-u) : ℝ) : EReal)) = ((Real.exp (0 - max u (-u)) : ℝ) : EReal) := by
    rw [← EReal.coe_zero, ← EReal.coe_sub, Ideal.exp_coe]
  have hl : Ideal.log1p ((Real.exp (0 - max u (-u)) : ℝ) : EReal) = ((Real.log (1 + Real.exp (0 - max u (-u))) : ℝ) : EReal) := by
    unfold Ideal.log1p
    rw [← EReal.coe_one, ← EReal.coe_add]
    exact if_neg (not_le.mpr (by positivity))
  refine ⟨max u 0 + Real.log (1 + Real.exp (0 - max u (-u))), ?_⟩
  unfold soft
  rw [ha, he, hl, EReal.coe_add, coe_larger, EReal.coe_zero]

/-- The word of the positive infinity reads as the top of the extended reals. -/
theorem inf_word : Ideal.ofBits .f32 0x7F800000#32 = ⊤ := by simp [Ideal.ofBits, Ideal.ieee]

/-- The comparison with infinity, when it holds, says the value is not the top. -/
theorem ne_top_of_cmp (x : EReal) (h : Ideal.cmp .olt x (Ideal.ofBits .f32 0x7F800000#32) = 1#1) : x ≠ ⊤ := by
  rw [inf_word] at h
  rintro rfl
  simp [Ideal.cmp] at h

/-- The softplus of anything below the top is a real: at the bottom it is zero. -/
theorem soft_below (u : EReal) (hu : u ≠ ⊤) : ∃ r : ℝ, soft u = (r : EReal) := by
  induction u using EReal.rec with
  | bot =>
    refine ⟨0, ?_⟩
    have ha : FloatOps.absf (F := Ideal) (φ := .f32) (⊥ : EReal) = ⊤ := by
      change max (⊥ : EReal) (-⊥) = ⊤
      simp
    have hz : (0 : EReal) - ⊤ = ⊥ := by simp
    unfold soft Ideal.log1p
    have hl : Ideal.log (1 : EReal) = 0 := by
      change (if (1 : ℝ) ≤ 0 then (⊥ : EReal) else (Real.log 1 : EReal)) = 0
      rw [if_neg (by norm_num), Real.log_one, EReal.coe_zero]
    rw [ha, hz, Ideal.exp_bot, add_zero, hl]
    simp
  | top => exact absurd rfl hu
  | coe r => exact soft_real r

/-- When the step sizes, their bias and the decay's logarithm are below the top, every token's step is a real, and so is every head's rate. -/
theorem steps_of (A : Args) (hd : ∀ r h, A.d r h ≠ ⊤) (hb : ∀ h, A.db h ≠ ⊤) (ha : ∀ h, A.al h ≠ ⊤) : Nonempty (Steps A) := by
  have h1 : ∀ r h, ∃ x : ℝ, dts A r h = (x : EReal) := fun r h => soft_below _ (EReal.add_ne_top (hd r h) (hb h))
  have h2 : ∀ h, ∃ x : ℝ, Ideal.exp (A.al h) = (x : EReal) := by
    intro h
    have hne := ha h
    generalize A.al h = a at hne ⊢
    induction a using EReal.rec with
    | bot => exact ⟨0, by rw [Ideal.exp_bot, EReal.coe_zero]⟩
    | top => exact absurd rfl hne
    | coe r => exact ⟨Real.exp r, Ideal.exp_coe r⟩
  choose δ hδ using h1
  choose ε hε using h2
  exact ⟨⟨δ, ε, hδ, hε⟩⟩

/-- The precondition says what the proof of the recurrence takes: real steps and real rates. -/
theorem steps_pre [hPre_finite_steps : Cert.Pre_finite_steps.Facts]
    (m : (ℓ : Loc Cert.SsdIdeal.nD Cert.SsdIdeal.τ Cert.SsdIdeal.sig) → Buf (Elt Ideal) ℓ) (h : Cert.Pre_SsdIdeal_finite_steps m) (c : Dev nD) :
    Nonempty (Steps (args m c)) := by
  have e := congrFun (h c) ix0
  dsimp only [Cert.Pre_finite_steps.fn] at e
  obtain ⟨e1, e3⟩ := IntOp.andi_eq_one.1 e
  obtain ⟨e1, e2⟩ := IntOp.andi_eq_one.1 e1
  haveI : Subsingleton Cert.Pre_finite_steps.S_.Idx := ⟨fun a b => funext fun d => d.elim0⟩
  refine steps_of _ (fun r k => ?_) (fun k => ?_) (fun k => ?_)
  · refine fun hx => ne_top_of_cmp _ (Host.reduce_andi_all _ _ _ _ _ e1 (ix2 r k)) (Eq.trans ?_ hx)
    pointwise [args]
  · exact ne_top_of_cmp _ (Host.reduce_andi_all _ _ _ _ _ e2 (ix1 k))
  · exact ne_top_of_cmp _ (Host.reduce_andi_all _ _ _ _ _ e3 (ix1 k))

open Cert.SsdRefIdeal.Read in
/-- At the ideal instance the kernel and the reference return the same array: the gated, normalised state-space sequence, which
    the kernel computes a chunk of 256 tokens at a time, carrying the state, and the reference as whole arrays. -/
theorem algebraic [hPre_finite_steps : Cert.Pre_finite_steps.Facts] : Cert.algebraic_SsdIdeal_SsdRefIdeal_pre_finite_steps := by
  pair_intro
  · run_from Cert.SsdIdeal.Value.run_blocks (F := Ideal) m g
  · refine (θ_run Cert.SsdRefIdeal.defs _ _).mono (fun r h c => ⟨(h c).1.trans ?_, (h c).2⟩) (Cert.SsdRefIdeal.Value.run (F := Ideal) m' g')
    obtain ⟨R⟩ := steps_pre m hpre c
    obtain ⟨h0, h1, h2, h3, h4, h5, h6, h7, h8⟩ := hagree c
    rw [final m c R]
    refine (val_main_v279_eq (F := Ideal) (StableHlo.launchContents m' c)).trans ?_
    change val_main_v279 (F := Ideal) (m' (c.tc.loc SsdRefIdeal.main_arg0)) (m' (c.tc.loc SsdRefIdeal.main_arg1)) (m' (c.tc.loc SsdRefIdeal.main_arg2)) (m' (c.tc.loc SsdRefIdeal.main_arg3)) (m' (c.tc.loc SsdRefIdeal.main_arg4)) (m' (c.tc.loc SsdRefIdeal.main_arg5)) (m' (c.tc.loc SsdRefIdeal.main_arg6)) (m' (c.tc.loc SsdRefIdeal.main_arg7)) (m' (c.tc.loc SsdRefIdeal.main_arg8)) = _
    rw [h0, h1, h2, h3, h4, h5, h6, h7, h8]
    funext i
    rw [eq_ix2 i]
    exact ref_out (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (i 0) (i 1)

end Cert.SsdIdeal.Mixer
-- ==== Proof.Merge.Value.lean ====
module

public import proofs.«01_k».proof.Proof.Gen.MergeIdeal.Frame
public import proofs.«01_k».proof.Proof.Gen.MergeRefIdeal.Run
public import Idealize.ShloMosaic.Lib.Pipeline.Value
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.MergeIdeal.Join

open Cert.MergeIdeal Cert.MergeIdeal.Gen

variable (m : (ℓ : Loc nD τ sig) → Buf (Elt Ideal) ℓ)

/-- The arguments the merged rows depend on. -/
structure Args where
  /-- the residual stream -/
  x : Fin 32768 → Fin 1024 → EReal
  /-- the attention branch -/
  a : Fin 32768 → Fin 512 → EReal
  /-- the state-space branch -/
  b : Fin 32768 → Fin 1024 → EReal
  /-- the gates' logits: first the attention branch's, then the other's -/
  g : Fin 32768 → Fin 2048 → EReal
  /-- the attention branch's weight -/
  wa : Fin 512 → Fin 1024 → EReal
  /-- the state-space branch's weight -/
  wb : Fin 1024 → Fin 1024 → EReal
  /-- the output weight -/
  wo : Fin 1024 → Fin 1024 → EReal
  /-- the gain of the norm that follows -/
  n : Fin 1024 → EReal

/-- The two branches, projected and gated: row `r`, feature `k`. -/
def merged (A : Args) (r : Fin 32768) (k : Fin 1024) : EReal :=
  Ideal.logistic (A.g r ⟨k.val, by omega⟩) * (∑ j : Fin 512, A.a r j * A.wa j k)
    + Ideal.logistic (A.g r ⟨1024 + k.val, by omega⟩) * (∑ j : Fin 1024, A.b r j * A.wb j k)

/-- The residual stream after the mixers: row `r`, feature `q`. -/
def joined (A : Args) (r : Fin 32768) (q : Fin 1024) : EReal :=
  A.x r q + ∑ k : Fin 1024, merged A r k * A.wo k q

/-- The joined rows after the RMS normalization. -/
def normed (A : Args) (r : Fin 32768) (q : Fin 1024) : EReal :=
  joined A r q * Ideal.rsqrt (Ideal.div (∑ j : Fin 1024, joined A r j * joined A r j) (Ideal.ofBits .f32 0x44800000#32)
    + Ideal.ofBits .f32 0x358637BD#32) * A.n q

/-- The arguments, read off the buffers. -/
def args (c : Dev nD) : Args where
  x := fun r j => (m ((c : Thread nD τ).loc main_arg0) : FVec Ideal S32768x1024 .f32) (ix2 r j)
  a := fun r j => (m ((c : Thread nD τ).loc main_arg1) : FVec Ideal S32768x512 .bf16) (ix2 r j)
  b := fun r j => (m ((c : Thread nD τ).loc main_arg2) : FVec Ideal S32768x1024 .bf16) (ix2 r j)
  g := fun r j => (m ((c : Thread nD τ).loc main_arg3) : FVec Ideal S32768x2048 .bf16) (ix2 r j)
  wa := fun k j => (m ((c : Thread nD τ).loc main_arg4) : FVec Ideal S512x1024 .f32) (ix2 k j)
  wb := fun k j => (m ((c : Thread nD τ).loc main_arg5) : FVec Ideal S1024x1024 .f32) (ix2 k j)
  wo := fun k j => (m ((c : Thread nD τ).loc main_arg6) : FVec Ideal S1024x1024 .f32) (ix2 k j)
  n := fun j => (m ((c : Thread nD τ).loc main_arg7) : FVec Ideal S1024 .f32) (ix1 j)

/-- Where every window's block sits at grid point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_10.index t = ![t.val, 0] ∧ win0_11.index t = ![t.val, 0, 0] :=
  (by decide +kernel : ∀ t : Fin grid0.N, _)

/-- One block's joined rows, from the blocks the body reads. -/
theorem joined_body (v0 : Vec Ideal S512x2048 .bf16) (v4 : Vec Ideal S512x512 .bf16) (v5 : Vec Ideal S512x1024 .bf16) (v10 : Vec Ideal S512x1024 .bf16)
    (v11 : Vec Ideal S1024x1024 .bf16) (v16 : Vec Ideal S512x1024 .f32) (v18 : Vec Ideal S1024x1024 .bf16) (l : Fin 512) (q : Fin 1024) :
    k0_pay2 (F := Ideal) v0 v4 v5 v10 v11 v16 v18 (ix2 l q) = v16 (ix2 l q) + ∑ k : Fin 1024,
      (Ideal.logistic (v0 (ix2 l (⟨k.val, by omega⟩ : Fin 2048))) * (∑ j : Fin 512, v4 (ix2 l j) * v5 (ix2 j k))
        + Ideal.logistic (v0 (ix2 l (⟨1024 + k.val, by omega⟩ : Fin 2048))) * (∑ j : Fin 1024, v10 (ix2 l j) * v11 (ix2 j k))) * v18 (ix2 k q) := by
  pointwise [k0_pay2]

/-- One block's normalized rows, from its joined rows. -/
theorem normed_body (v0 : Vec Ideal S512x2048 .bf16) (v4 : Vec Ideal S512x512 .bf16) (v5 : Vec Ideal S512x1024 .bf16) (v10 : Vec Ideal S512x1024 .bf16)
    (v11 : Vec Ideal S1024x1024 .bf16) (v16 : Vec Ideal S512x1024 .f32) (v18 : Vec Ideal S1024x1024 .bf16) (v23 : Vec Ideal S1x1024 .f32)
    (l : Fin 512) (e : Fin 8) (f : Fin 128) :
    k0_pay6 (F := Ideal) (k0_pay2 v0 v4 v5 v10 v11 v16 v18) (k0_pay3 v23) (k0_pay4 v0 v4 v5 v10 v11 v16 v18) (ix3 l e f) =
      k0_pay2 (F := Ideal) v0 v4 v5 v10 v11 v16 v18 (ix2 l (⟨e.val * 128 + f.val, by omega⟩ : Fin 1024))
        * Ideal.rsqrt (Ideal.div (∑ j : Fin 1024, k0_pay2 (F := Ideal) v0 v4 v5 v10 v11 v16 v18 (ix2 l j) * k0_pay2 (F := Ideal) v0 v4 v5 v10 v11 v16 v18 (ix2 l j))
          (Ideal.ofBits .f32 0x44800000#32) + Ideal.ofBits .f32 0x358637BD#32)
        * v23 (ix2 0 (⟨e.val * 128 + f.val, by omega⟩ : Fin 1024)) := by
  generalize hJ : k0_pay2 (F := Ideal) v0 v4 v5 v10 v11 v16 v18 = J
  pointwise [k0_pay6, k0_pay5, k0_pay4, k0_pay3, hJ]

/-- The block of the residual stream holds the rows `512 t …`. -/
theorem x_block (c : Dev nD) (t : Fin cfg0.N) (l : Fin 512) (r : Fin 32768) (hr : r.val = t.val * 512 + l.val) (q : Fin 1024) :
    iblk m c 0 t (ix2 l q) = (args m c).x r q := by
  unfold args; dsimp only; blk_ext [iblk, V, idx t]
  all_goals omega

/-- The block of the attention branch. -/
theorem a_block (c : Dev nD) (t : Fin cfg0.N) (l : Fin 512) (r : Fin 32768) (hr : r.val = t.val * 512 + l.val) (j : Fin 512) :
    iblk m c 1 t (ix2 l j) = (args m c).a r j := by
  unfold args; dsimp only; blk_ext [iblk, V, idx t]
  all_goals omega

/-- The block of the state-space branch. -/
theorem b_block (c : Dev nD) (t : Fin cfg0.N) (l : Fin 512) (r : Fin 32768) (hr : r.val = t.val * 512 + l.val) (j : Fin 1024) :
    iblk m c 2 t (ix2 l j) = (args m c).b r j := by
  unfold args; dsimp only; blk_ext [iblk, V, idx t]
  all_goals omega

/-- The block of the gates' logits. -/
theorem g_block (c : Dev nD) (t : Fin cfg0.N) (l : Fin 512) (r : Fin 32768) (hr : r.val = t.val * 512 + l.val) (j : Fin 2048) :
    iblk m c 3 t (ix2 l j) = (args m c).g r j := by
  unfold args; dsimp only; blk_ext [iblk, V, idx t]
  all_goals omega

/-- The attention branch's weight, as the body reads it. -/
theorem wa_block (c : Dev nD) (t : Fin cfg0.N) (j : Fin 512) (k : Fin 1024) : iblk m c 4 t (ix2 j k) = (args m c).wa j k := by
  have e : ((cfg0.win 4).blk t).view.emb (ix2 j k) = (ix2 j k : S512x1024.Idx) := by blk_ext [idx t]
  unfold args; dsimp only; blk_simp [iblk]
  rw [e]
  entry_read
  pointwise []

/-- The state-space branch's weight, as the body reads it. -/
theorem wb_block (c : Dev nD) (t : Fin cfg0.N) (j k : Fin 1024) : iblk m c 5 t (ix2 j k) = (args m c).wb j k := by
  have e : ((cfg0.win 5).blk t).view.emb (ix2 j k) = (ix2 j k : S1024x1024.Idx) := by blk_ext [idx t]
  unfold args; dsimp only; blk_simp [iblk]
  rw [e]
  entry_read
  pointwise []

/-- The output weight, as the body reads it. -/
theorem wo_block (c : Dev nD) (t : Fin cfg0.N) (j k : Fin 1024) : iblk m c 6 t (ix2 j k) = (args m c).wo j k := by
  have e : ((cfg0.win 6).blk t).view.emb (ix2 j k) = (ix2 j k : S1024x1024.Idx) := by blk_ext [idx t]
  unfold args; dsimp only; blk_simp [iblk]
  rw [e]
  entry_read
  pointwise []

/-- A block's joined rows are the joined rows `512 t …`. -/
theorem joined_block (c : Dev nD) (t : Fin cfg0.N) (l : Fin 512) (q : Fin 1024) (r : Fin 32768) (hr : r.val = t.val * 512 + l.val) :
    k0_pay2 (F := Ideal) (iblk m c 3 t) (iblk m c 1 t) (iblk m c 4 t) (iblk m c 2 t) (iblk m c 5 t) (iblk m c 0 t) (iblk m c 6 t) (ix2 l q)
      = joined (args m c) r q := by
  refine (joined_body _ _ _ _ _ _ _ l q).trans ?_
  unfold joined merged
  exact congrArg₂ (· + ·) (x_block m c t l r hr q) (Finset.sum_congr rfl fun k _ => congrArg₂ (· * ·)
    (congrArg₂ (· + ·)
      (congrArg₂ (· * ·) (congrArg Ideal.logistic (g_block m c t l r hr _))
        (Finset.sum_congr rfl fun j _ => congrArg₂ (· * ·) (a_block m c t l r hr j) (wa_block m c t j k)))
      (congrArg₂ (· * ·) (congrArg Ideal.logistic (g_block m c t l r hr _))
        (Finset.sum_congr rfl fun j _ => congrArg₂ (· * ·) (b_block m c t l r hr j) (wb_block m c t j k))))
    (wo_block m c t k q))

/-- The norm's gain, as the body reads it. -/
theorem gain_block (c : Dev nD) (t : Fin cfg0.N) (q : Fin 1024) : iblk m c 7 t (ix2 0 q) = (args m c).n q := by
  have e : ((cfg0.win 7).blk t).view.emb (ix2 0 q) = (ix2 0 q : S1x1024.Idx) := by blk_ext [idx t]
  unfold args; dsimp only; blk_simp [iblk]
  rw [e]
  entry_read
  pointwise []

/-- A block's normalized rows are the normalized rows `512 t …`. -/
theorem normed_block (c : Dev nD) (t : Fin cfg0.N) (l : Fin 512) (e : Fin 8) (f : Fin 128) (r : Fin 32768) (hr : r.val = t.val * 512 + l.val) :
    k0_pay6 (F := Ideal) (k0_pay2 (iblk m c 3 t) (iblk m c 1 t) (iblk m c 4 t) (iblk m c 2 t) (iblk m c 5 t) (iblk m c 0 t) (iblk m c 6 t))
        (k0_pay3 (iblk m c 7 t))
        (k0_pay4 (iblk m c 3 t) (iblk m c 1 t) (iblk m c 4 t) (iblk m c 2 t) (iblk m c 5 t) (iblk m c 0 t) (iblk m c 6 t)) (ix3 l e f)
      = normed (args m c) r ⟨e.val * 128 + f.val, by omega⟩ := by
  refine (normed_body _ _ _ _ _ _ _ _ l e f).trans ?_
  have h : ∀ q, k0_pay2 (F := Ideal) (iblk m c 3 t) (iblk m c 1 t) (iblk m c 4 t) (iblk m c 2 t) (iblk m c 5 t) (iblk m c 0 t) (iblk m c 6 t) (ix2 l q)
      = joined (args m c) r q := fun q => joined_block m c t l q r hr
  unfold normed
  simp only [h]
  rw [show iblk m c 7 t (ix2 0 (⟨e.val * 128 + f.val, by omega⟩ : Fin 1024)) = _ from gain_block m c t _]

/-- The joined rows of a block, at any index of it. -/
theorem joined_at (c : Dev nD) (t : Fin cfg0.N) (y : S512x1024.Idx) (r : Fin 32768) (q : Fin 1024) (hr : r.val = t.val * 512 + (y 0).val) (hq : q.val = (y 1).val) :
    k0_pay2 (F := Ideal) (iblk m c 3 t) (iblk m c 1 t) (iblk m c 4 t) (iblk m c 2 t) (iblk m c 5 t) (iblk m c 0 t) (iblk m c 6 t) y
      = joined (args m c) r q := by
  rw [eq_ix2 y, show q = y 1 from Fin.ext hq]
  exact joined_block m c t (y 0) (y 1) r hr

/-- The normalized rows of a block, at any index of it. -/
theorem normed_at (c : Dev nD) (t : Fin cfg0.N) (y : S512x8x128.Idx) (r : Fin 32768) (q : Fin 1024) (hr : r.val = t.val * 512 + (y 0).val)
    (hq : q.val = (y 1).val * 128 + (y 2).val) :
    k0_pay6 (F := Ideal) (k0_pay2 (iblk m c 3 t) (iblk m c 1 t) (iblk m c 4 t) (iblk m c 2 t) (iblk m c 5 t) (iblk m c 0 t) (iblk m c 6 t))
        (k0_pay3 (iblk m c 7 t))
        (k0_pay4 (iblk m c 3 t) (iblk m c 1 t) (iblk m c 4 t) (iblk m c 2 t) (iblk m c 5 t) (iblk m c 0 t) (iblk m c 6 t)) y
      = normed (args m c) r q := by
  have y1 : (y 1).val < 8 := (y 1).isLt
  have y2 : (y 2).val < 128 := (y 2).isLt
  rw [eq_ix3 y, show q = ⟨(y 1).val * 128 + (y 2).val, by omega⟩ from Fin.ext hq]
  exact normed_block m c t (y 0) (y 1) (y 2) r hr

/-- The first result after the run: the joined rows. -/
theorem final10 (c : Dev nD) : (dats m 0 c).arrAt 10 (cfgs 0).N = fun i : S32768x1024.Idx =>
    joined (args m c) ⟨(i 0).val, (i 0).isLt⟩ ⟨(i 1).val, (i 1).isLt⟩ := by
  refine (dats m 0 c).arrAt_eq_of_covers 10 _ (by decide +kernel) fun t hf y => ?_
  blk_simp
  rw [after0_10]; unfold out0_10; frame_out
  have i0 : win0_10.index t 0 = t.val := congrFun (idx t).2.2.2.2.2.2.2.2.1 0
  have i1 : win0_10.index t 1 = 0 := congrFun (idx t).2.2.2.2.2.2.2.2.1 1
  refine joined_at m c t y _ _ ?_ ?_
  · dsimp only; rw [i0]
  · dsimp only; rw [i1]; omega

/-- The second result after the run: the normalized rows, a row's features cut into eight runs of 128. -/
theorem final11 (c : Dev nD) : (dats m 0 c).arrAt 11 (cfgs 0).N = fun i : S32768x8x128.Idx =>
    normed (args m c) ⟨(i 0).val, (i 0).isLt⟩ ⟨(i 1).val * 128 + (i 2).val, by
      have : (i 1).val < 8 := (i 1).isLt
      have : (i 2).val < 128 := (i 2).isLt
      omega⟩ := by
  refine (dats m 0 c).arrAt_eq_of_covers 11 _ (by decide +kernel) fun t hf y => ?_
  blk_simp
  rw [after0_11]; unfold out0_11 k0_pay31 k0_pay30 k0_pay29; frame_out
  have i0 : win0_11.index t 0 = t.val := congrFun (idx t).2.2.2.2.2.2.2.2.2 0
  have i1 : win0_11.index t 1 = 0 := congrFun (idx t).2.2.2.2.2.2.2.2.2 1
  have i2 : win0_11.index t 2 = 0 := congrFun (idx t).2.2.2.2.2.2.2.2.2 2
  refine normed_at m c t y _ _ ?_ ?_
  · dsimp only; rw [i0]
  · dsimp only; rw [i1, i2]; omega

/-- The run, with its two results named: every argument ends as it began. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v21_0) = (dats m 0 c).arrAt 10 cfg0.N
      ∧ r.2.mem ((c : Thread nD τ).loc main_v21_1) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1 10, (h c).1 11,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩)
    (run_main m ρ)

end Cert.MergeIdeal.Join
-- ==== Proof.Merge.Reference.lean ====
module

public import proofs.«01_k».proof.Defs
public import proofs.«01_k».proof.Proof.Merge.Value
public import proofs.«01_k».proof.Proof.Gen.MergeRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.MergeIdeal.Join

open Cert.MergeRefIdeal.Read

/-- The arguments, from arrays. -/
def argsOf (X : FVec Ideal S32768x1024 .f32) (a : FVec Ideal S32768x512 .bf16) (b : FVec Ideal S32768x1024 .bf16) (g : FVec Ideal S32768x2048 .bf16)
    (wa : FVec Ideal S512x1024 .f32) (wb wo : FVec Ideal S1024x1024 .f32) (n : FVec Ideal S1024 .f32) : Args where
  x := fun r j => X (ix2 r j)
  a := fun r j => a (ix2 r j)
  b := fun r j => b (ix2 r j)
  g := fun r j => g (ix2 r j)
  wa := fun k j => wa (ix2 k j)
  wb := fun k j => wb (ix2 k j)
  wo := fun k j => wo (ix2 k j)
  n := fun j => n (ix1 j)

section
variable (X : FVec Ideal S32768x1024 .f32) (a : FVec Ideal S32768x512 .bf16) (b : FVec Ideal S32768x1024 .bf16) (g : FVec Ideal S32768x2048 .bf16)
    (wa : FVec Ideal S512x1024 .f32) (wb wo : FVec Ideal S1024x1024 .f32) (n : FVec Ideal S1024 .f32)

/-- The reference's gates are the logistic function of their logits. -/
theorem ref_gate (r : Fin 32768) (k : Fin 2048) : val_main_v6 (F := Ideal) g (ix2 r k) = Ideal.logistic (g (ix2 r k)) := by
  pointwise [val_main_v6, val_main_v5, val_main_v4, val_main_v3, val_main_v2, val_main_v1, val_main_v0, val_main_cst, val_main_cst_0]
  rfl

/-- The reference's merged rows. -/
theorem ref_merged (r : Fin 32768) (k : Fin 1024) :
    val_main_v15 (F := Ideal) a b g wa wb (ix2 r k) = merged (argsOf X a b g wa wb wo n) r k := by
  unfold merged argsOf
  have h := ref_gate g r
  generalize hG : val_main_v6 (F := Ideal) g = G at h
  pointwise [val_main_v15, val_main_v14, val_main_v13, val_main_v12, val_main_v11, val_main_v10, val_main_v9, val_main_v8, val_main_v7, hG, h]

/-- The reference's joined rows. -/
theorem ref_joined (r : Fin 32768) (q : Fin 1024) :
    val_main_v17 (F := Ideal) X a b g wa wb wo (ix2 r q) = joined (argsOf X a b g wa wb wo n) r q := by
  have h := ref_merged X a b g wa wb wo n r
  unfold joined
  generalize hM : val_main_v15 (F := Ideal) a b g wa wb = M at h
  simp only [← h]
  unfold argsOf
  pointwise [val_main_v17, val_main_v16, hM]

/-- The reference's normalized rows. -/
theorem ref_normed (r : Fin 32768) (q : Fin 1024) :
    val_main_v31 (F := Ideal) X a b g wa wb wo n (ix2 r q) = normed (argsOf X a b g wa wb wo n) r q := by
  have h := ref_joined X a b g wa wb wo n r
  unfold normed
  generalize hJ : val_main_v17 (F := Ideal) X a b g wa wb wo = J at h
  simp only [← h]
  unfold argsOf
  pointwise [val_main_v31, val_main_v30, val_main_v29, val_main_v28, val_main_v27, val_main_v26, val_main_v25, val_main_v24, val_main_v23, val_main_v22,
    val_main_v21, val_main_v20, val_main_v19, val_main_v18, val_main_cst_1, val_main_cst_2, val_main_cst_3, hJ]

/-- The reference's second result. -/
theorem ref_parts (r : Fin 32768) (e : Fin 8) (f : Fin 128) :
    val_main_v32 (F := Ideal) X a b g wa wb wo n (ix3 r e f) = normed (argsOf X a b g wa wb wo n) r ⟨e.val * 128 + f.val, by omega⟩ := by
  rw [← ref_normed X a b g wa wb wo n]
  generalize hJ : val_main_v31 (F := Ideal) X a b g wa wb wo n = J
  pointwise [val_main_v32, hJ]

end

/-- At the ideal instance the kernel and the reference return the same two arrays: the residual stream with the gated branches added, which
    the kernel computes 512 rows at a time, and its normalized rows. -/
theorem algebraic : Cert.algebraic_MergeIdeal_MergeRefIdeal := by
  pair_intro
  · refine (θ_run Cert.MergeIdeal.defs _ _).mono (fun r h c => ?_) (Cert.MergeIdeal.Join.run m g)
    exact h c
  · refine (θ_run Cert.MergeRefIdeal.defs _ _).mono (fun r h c => ⟨(h c).1.trans ?_, (h c).2.1.trans ?_, (h c).2.2⟩) (Cert.MergeRefIdeal.Value.run (F := Ideal) m' g')
    · obtain ⟨h0, h1, h2, h3, h4, h5, h6, h7, _⟩ := hagree c
      rw [final10 m c]
      refine (val_main_v17_eq (F := Ideal) _ _ _ _ _ _ _).trans ?_
      rw [h0, h1, h2, h3, h4, h5, h6]
      funext i
      rw [eq_ix2 i]
      exact ref_joined (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (i 0) (i 1)
    · obtain ⟨h0, h1, h2, h3, h4, h5, h6, h7, _⟩ := hagree c
      rw [final11 m c]
      refine (val_main_v32_eq (F := Ideal) m' c).trans ?_
      rw [h0, h1, h2, h3, h4, h5, h6, h7]
      funext i
      rw [eq_ix3 i]
      exact ref_parts (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (i 0) (i 1) (i 2)

end Cert.MergeIdeal.Join
-- ==== Proof.lean ====
/- The certificate: every claim of the statement, from the generated frames and the value theorems beside this file. -/
module

public import proofs.«01_k».proof.Defs
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdIdeal.Value
public import proofs.«01_k».proof.Proof.Gen.SsdRefIdeal
public import proofs.«01_k».proof.Proof.Gen.SsdRefIdeal.Run
public import proofs.«01_k».proof.Proof.Gen.SsdRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeRefIdeal.Run
public import proofs.«01_k».proof.Proof.Gen.MergeRefIdeal.Read
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.InProj.Reference
public import proofs.«01_k».proof.Proof.Ssd.Reference
public import proofs.«01_k».proof.Proof.Merge.Reference
public import Idealize.ShloMosaic.Adequacy
public import Idealize.ShloMosaic.Init

@[expose] public section

noncomputable section

namespace Cert.Proof

open Idealize.ShloMosaic Idealize.SL.Sem

/-- The side conditions of the precondition's operations: a slice, scalar broadcasts, reductions over every axis, a shape with an element. -/
theorem pre_facts : Cert.Pre_finite_steps.Facts where
  slices_S32768x128_S32768x16_0_0 := by decide
  bcast_S_S32768x16 := by decide
  reducesTo_S32768x16_S_d0_1 := by decide
  h_S_ := by decide
  bcast_S_S16 := by decide
  reducesTo_S16_S_d0 := by decide

/-- Every claim: the frames are the generated ones, the named constants are those of the kernel's words, and the values are
    those of the value modules. -/
theorem claim : Cert.Claim := ⟨Cert.InProj.Gen.facts, Cert.InProjIdeal.Gen.facts, Cert.InProjRefIdeal.Gen.facts,
  Cert.Ssd.Gen.facts, Cert.SsdIdeal.Gen.facts, Cert.SsdRefIdeal.Gen.facts,
  Cert.Merge.Gen.facts, Cert.MergeIdeal.Gen.facts, Cert.MergeRefIdeal.Gen.facts, pre_facts,
  fun m ρ _ => Cert.InProj.Gen.frame m ρ, fun m ρ _ => Cert.InProjIdeal.Gen.frame m ρ,
  fun m ρ _ => (θ_run Cert.InProjRefIdeal.defs _ _).mono (fun r h => ⟨fun c => (h c).2.2.2.2.2.2.2.2, sem_eq_zero_of_no_sems (by decide) r.2⟩) (Cert.InProjRefIdeal.Value.run m ρ),
  fun m ρ _ => Cert.Ssd.Gen.frame m ρ, fun m ρ _ => Cert.SsdIdeal.Gen.frame m ρ, fun m ρ _ => Cert.SsdIdeal.Gen.frame m ρ,
  fun m ρ _ => (θ_run Cert.SsdRefIdeal.defs _ _).mono (fun r h => ⟨fun c => (h c).2, sem_eq_zero_of_no_sems (by decide) r.2⟩) (Cert.SsdRefIdeal.Value.run m ρ),
  fun m ρ _ => (θ_run Cert.SsdRefIdeal.defs _ _).mono (fun r h => ⟨fun c => (h c).2, sem_eq_zero_of_no_sems (by decide) r.2⟩) (Cert.SsdRefIdeal.Value.run m ρ),
  fun m ρ _ => Cert.Merge.Gen.frame m ρ, fun m ρ _ => Cert.MergeIdeal.Gen.frame m ρ,
  fun m ρ _ => (θ_run Cert.MergeRefIdeal.defs _ _).mono (fun r h => ⟨fun c => (h c).2.2, sem_eq_zero_of_no_sems (by decide) r.2⟩) (Cert.MergeRefIdeal.Value.run m ρ),
  trivial, Cert.InProjIdeal.Proj.algebraic,
  ⟨IdealRules.named_const.statement Cert.SsdIdeal.κ "neg_log2e" .f32 0xBFB8AA3B#32 ((-((Real.log 2)⁻¹) : ℝ) : EReal) rfl,
    IdealRules.named_const.statement Cert.SsdIdeal.κ "mask" .f32 0xF149F2CA#32 ⊥ rfl⟩,
  Cert.SsdIdeal.Mixer.algebraic (hPre_finite_steps := pre_facts),
  trivial, Cert.MergeIdeal.Join.algebraic⟩

end Cert.Proof

end
